-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite_KernelIdeal [hPre_scores_finite_KernelIdeal : Cert.Pre_scores_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite_ReferenceIdeal [hPre_scores_finite_ReferenceIdeal : Cert.Pre_scores_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scores_finite_KernelIdeal [hKernelIdeal : Cert.KernelIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scores_finite_ReferenceIdeal [hReferenceIdeal : Cert.ReferenceIdeal.Facts] [hPre_scores_finite_ReferenceIdeal : Cert.Pre_scores_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_scores_finite_KernelIdeal [hKernelIdeal : Cert.KernelIdeal.Facts] [hReferenceIdeal : Cert.ReferenceIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite_KernelIdeal m →
    (∀ c : Dev Cert.KernelIdeal.nD,
      m ((c.tc : Thread Cert.KernelIdeal.nD Cert.KernelIdeal.τ).loc Cert.KernelIdeal.main_arg0) = Layout.block ⟨3, ![1, 256, 1024]⟩ ⟨3, ![1, 2048, 1024]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = Layout.block ⟨3, ![1, 256, 1024]⟩ ⟨3, ![1, 2048, 1024]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v33) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_scores_finite_KernelIdeal : Cert.Pre_scores_finite_KernelIdeal.Facts) (hPre_scores_finite_ReferenceIdeal : Cert.Pre_scores_finite_ReferenceIdeal.Facts),
    quiescent_Kernel (hKernel := hKernel)
    ∧ quiescent_KernelIdeal (hKernelIdeal := hKernelIdeal)
    ∧ quiescent_KernelIdeal_pre_scores_finite_KernelIdeal (hKernelIdeal := hKernelIdeal) (hPre_scores_finite_KernelIdeal := hPre_scores_finite_KernelIdeal)
    ∧ quiescent_ReferenceIdeal (hReferenceIdeal := hReferenceIdeal)
    ∧ quiescent_ReferenceIdeal_pre_scores_finite_ReferenceIdeal (hReferenceIdeal := hReferenceIdeal) (hPre_scores_finite_ReferenceIdeal := hPre_scores_finite_ReferenceIdeal)
    ∧ preserves_Kernel_KernelIdeal
    ∧ algebraic_KernelIdeal_ReferenceIdeal_pre_scores_finite_KernelIdeal (hKernelIdeal := hKernelIdeal) (hReferenceIdeal := hReferenceIdeal) (hPre_scores_finite_KernelIdeal := hPre_scores_finite_KernelIdeal)
-- ==== Pre_scores_finite_KernelIdeal.lean ====
abbrev S1x256x1024 : Shape := ⟨3, ![1, 256, 1024]⟩
abbrev S1024x1024 : Shape := ⟨2, ![1024, 1024]⟩
abbrev S1x4096x64x128 : Shape := ⟨4, ![1, 4096, 64, 128]⟩
abbrev S_ : Shape := ⟨0, ![]⟩
abbrev S1x2048x64x128 : Shape := ⟨4, ![1, 2048, 64, 128]⟩

class Facts : Prop where
  bcast_S_S1x256x1024 : S_.BroadcastsInDim S1x256x1024 (![] : Fin 0 → Fin S1x256x1024.rank)
  bcast_S_S1024x1024 : S_.BroadcastsInDim S1024x1024 (![] : Fin 0 → Fin S1024x1024.rank)
  slices_S1x4096x64x128_S1x2048x64x128_0_0_0_0 : S1x4096x64x128.Slices ![0, 0, 0, 0] S1x2048x64x128
  bcast_S_S1x2048x64x128 : S_.BroadcastsInDim S1x2048x64x128 (![] : Fin 0 → Fin S1x2048x64x128.rank)

variable [Facts]

def fn {F : FTy → Type} [FloatOps F] (main_arg0 : FVec F S1x256x1024 .f32) (main_arg1 : FVec F S1024x1024 .f32) (main_arg2 : FVec F S1x4096x64x128 .f32) (main_arg3 : FVec F S1x4096x64x128 .f32) (main_arg4 : FVec F S1024x1024 .f32) : IVec S1x256x1024 1 × IVec S1024x1024 1 × IVec S1x2048x64x128 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S1x2048x64x128 .f32 := (extractStridedSlice S1x2048x64x128 ![0, 0, 0, 0] · slices_S1x4096x64x128_S1x2048x64x128_0_0_0_0) main_arg2
  let main_v7 : FVec F S1x2048x64x128 .f32 := Host.absf main_v6
  let main_cst_1 : FVec F S_ .f32 := constant S_ .f32 0x7F800000#32
  let main_v8 : FVec F S1x2048x64x128 .f32 := broadcastInDim S1x2048x64x128 ![] bcast_S_S1x2048x64x128 main_cst_1
  let main_v9 : IVec S1x2048x64x128 1 := cmpf .olt main_v7 main_v8
  (main_v2, main_v5, main_v9)
-- ==== Pre_scores_finite_ReferenceIdeal.lean ====
abbrev S1x2048x1024 : Shape := ⟨3, ![1, 2048, 1024]⟩
abbrev S1024x8192 : Shape := ⟨2, ![1024, 8192]⟩
abbrev S1x4096x64x128 : Shape := ⟨4, ![1, 4096, 64, 128]⟩
abbrev S8192x1024 : Shape := ⟨2, ![8192, 1024]⟩
abbrev S_ : Shape := ⟨0, ![]⟩
abbrev S1x2048x64x128 : Shape := ⟨4, ![1, 2048, 64, 128]⟩

class Facts : Prop where
  bcast_S_S1x2048x1024 : S_.BroadcastsInDim S1x2048x1024 (![] : Fin 0 → Fin S1x2048x1024.rank)
  bcast_S_S1024x8192 : S_.BroadcastsInDim S1024x8192 (![] : Fin 0 → Fin S1024x8192.rank)
  slices_S1x4096x64x128_S1x2048x64x128_0_0_0_0 : S1x4096x64x128.Slices ![0, 0, 0, 0] S1x2048x64x128
  bcast_S_S1x2048x64x128 : S_.BroadcastsInDim S1x2048x64x128 (![] : Fin 0 → Fin S1x2048x64x128.rank)

variable [Facts]

def fn {F : FTy → Type} [FloatOps F] (main_arg0 : FVec F S1x2048x1024 .f32) (main_arg1 : FVec F S1024x8192 .f32) (main_arg2 : FVec F S1x4096x64x128 .f32) (main_arg3 : FVec F S1x4096x64x128 .f32) (main_arg4 : FVec F S8192x1024 .f32) : IVec S1x2048x1024 1 × IVec S1024x8192 1 × IVec S1x2048x64x128 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_v3 : FVec F S1024x8192 .f32 := Host.absf main_arg1
  let main_cst_0 : FVec F S_ .f32 := constant S_ .f32 0x7F800000#32
  let main_v4 : FVec F S1024x8192 .f32 := broadcastInDim S1024x8192 ![] bcast_S_S1024x8192 main_cst_0
  let main_v5 : IVec S1024x8192 1 := cmpf .olt main_v3 main_v4
  let main_v6 : FVec F S1x2048x64x128 .f32 := (extractStridedSlice S1x2048x64x128 ![0, 0, 0, 0] · slices_S1x4096x64x128_S1x2048x64x128_0_0_0_0) main_arg2
  let main_v7 : FVec F S1x2048x64x128 .f32 := Host.absf main_v6
  let main_cst_1 : FVec F S_ .f32 := constant S_ .f32 0x7F800000#32
  let main_v8 : FVec F S1x2048x64x128 .f32 := broadcastInDim S1x2048x64x128 ![] bcast_S_S1x2048x64x128 main_cst_1
  let main_v9 : IVec S1x2048x64x128 1 := cmpf .olt main_v7 main_v8
  (main_v2, main_v5, main_v9)
-- ==== Kernel.lean ====
abbrev S1x256x1024 : Shape := ⟨3, ![1, 256, 1024]⟩
abbrev S1024x1024 : Shape := ⟨2, ![1024, 1024]⟩
abbrev S1x4096x64x128 : Shape := ⟨4, ![1, 4096, 64, 128]⟩
abbrev S_ : Shape := ⟨0, ![]⟩
abbrev S1x2048x8x128 : Shape := ⟨4, ![1, 2048, 8, 128]⟩
abbrev S2048x8x128 : Shape := ⟨3, ![2048, 8, 128]⟩
abbrev S8x2048x128 : Shape := ⟨3, ![8, 2048, 128]⟩
abbrev S256x1024 : Shape := ⟨2, ![256, 1024]⟩
abbrev S8x256x1024 : Shape := ⟨3, ![8, 256, 1024]⟩
abbrev S7 : Shape := ⟨1, ![7]⟩
abbrev S1 : Shape := ⟨1, ![1]⟩
abbrev S256x2048 : Shape := ⟨2, ![256, 2048]⟩
abbrev S256x128 : Shape := ⟨2, ![256, 128]⟩
abbrev S1x2048x128 : Shape := ⟨3, ![1, 2048, 128]⟩
abbrev S2048x128 : Shape := ⟨2, ![2048, 128]⟩
abbrev S256 : Shape := ⟨1, ![256]⟩
abbrev S256x1 : Shape := ⟨2, ![256, 1]⟩
abbrev S128x1024 : Shape := ⟨2, ![128, 1024]⟩

abbrev nBuf : Space → Nat
  | .hbm => 45
  | .vmem => 9
  | .smem => 0
  | _ => 0

abbrev bufTy : (tb : Table) → Fin (tcTables nBuf tb) → BufTy
  | .hbm, ⟨0, _⟩ => ⟨S1x256x1024, .f32⟩
  | .hbm, ⟨1, _⟩ => ⟨S1024x1024, .f32⟩
  | .hbm, ⟨2, _⟩ => ⟨S1x4096x64x128, .f32⟩
  | .hbm, ⟨3, _⟩ => ⟨S1x4096x64x128, .f32⟩
  | .hbm, ⟨4, _⟩ => ⟨S1024x1024, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S1x2048x8x128, .f32⟩
  | .hbm, ⟨22, _⟩ => ⟨S2048x8x128, .f32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S1x2048x8x128, .f32⟩
  | .hbm, ⟨34, _⟩ => ⟨S2048x8x128, .f32⟩
  | .hbm, ⟨35, _⟩ => ⟨S8x2048x128, .f32⟩
  | .hbm, ⟨36, _⟩ => ⟨S8x2048x128, .bf16⟩
  | .hbm, ⟨37, _⟩ => ⟨S8x2048x128, .f32⟩
  | .hbm, ⟨38, _⟩ => ⟨S8x2048x128, .bf16⟩
  | .hbm, ⟨39, _⟩ => ⟨S256x1024, .f32⟩
  | .hbm, ⟨40, _⟩ => ⟨S256x1024, .bf16⟩
  | .hbm, ⟨41, _⟩ => ⟨S1024x1024, .bf16⟩
  | .hbm, ⟨42, _⟩ => ⟨S1024x1024, .bf16⟩
  | .hbm, ⟨43, _⟩ => ⟨S256x1024, .f32⟩
  | .hbm, ⟨44, _⟩ => ⟨S1x256x1024, .f32⟩
  | .local _ .vmem, ⟨0, _⟩ => ⟨S256x1024, .bf16⟩
  | .local _ .vmem, ⟨1, _⟩ => ⟨S1024x1024, .bf16⟩
  | .local _ .vmem, ⟨2, _⟩ => ⟨S8x2048x128, .bf16⟩
  | .local _ .vmem, ⟨3, _⟩ => ⟨S8x2048x128, .bf16⟩
  | .local _ .vmem, ⟨4, _⟩ => ⟨S1024x1024, .bf16⟩
  | .local _ .vmem, ⟨5, _⟩ => ⟨S256x1024, .f32⟩
  | .local _ .vmem, ⟨6, _⟩ => ⟨S8x256x1024, .bf16⟩
  | .local _ .vmem, ⟨7, _⟩ => ⟨S8x256x1024, .bf16⟩
  | .local _ .vmem, ⟨8, _⟩ => ⟨S256x1024, .bf16⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_c_5 : Ref sig .tc := ⟨.hbm, 19, rfl⟩
abbrev main_c_6 : Ref sig .tc := ⟨.hbm, 20, rfl⟩
abbrev main_v9 : Ref sig .tc := ⟨.hbm, 21, rfl⟩
abbrev main_v10 : Ref sig .tc := ⟨.hbm, 22, rfl⟩
abbrev main_c_7 : Ref sig .tc := ⟨.hbm, 23, rfl⟩
abbrev main_v11 : Ref sig .tc := ⟨.hbm, 24, rfl⟩
abbrev main_c_8 : Ref sig .tc := ⟨.hbm, 25, rfl⟩
abbrev main_v12 : Ref sig .tc := ⟨.hbm, 26, rfl⟩
abbrev main_c_9 : Ref sig .tc := ⟨.hbm, 27, rfl⟩
abbrev main_v13 : Ref sig .tc := ⟨.hbm, 28, rfl⟩
abbrev main_v14 : Ref sig .tc := ⟨.hbm, 29, rfl⟩
abbrev main_c_10 : Ref sig .tc := ⟨.hbm, 30, rfl⟩
abbrev main_c_11 : Ref sig .tc := ⟨.hbm, 31, rfl⟩
abbrev main_c_12 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.subi v2 c1_i32_2
  let c8_i32_3 : BitVec 32 := 8#32
  let v7 : BitVec 32 := Scalar.addi v6 c8_i32_3
  let c8_i32_4 : BitVec 32 := 8#32
  let v8 : BitVec 32 := Scalar.remsi v7 c8_i32_4
  let c1_i32_6 : BitVec 32 := 1#32
  let v9 : BitVec 32 := Scalar.muli v8 c1_i32_6
  let v10 : BitVec 32 := Scalar.addi c0_i32 v9
  v10.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_16 : BitVec 32 := 1#32
  let v16 : BitVec 32 := Scalar.muli v4 c1_i32_16
  let v17 : BitVec 32 := Scalar.addi c0_i32_17 v16
  v17.toNat
@[reducible] def k0_t1_loop : Scf.Loop 32 :=
  let c0_i32_42 : BitVec 32 := 0#32
  let c8_i32_43 : BitVec 32 := 8#32
  let v90 : BitVec 32 := Scalar.addi c0_i32_42 c8_i32_43
  let c1_i32_44 : BitVec 32 := 1#32
  ⟨c0_i32_42, v90, c1_i32_44⟩
def k0_off1 (k0_t1 : Fin k0_t1_loop.trips) : Fin 2 → Nat :=
  let c0_690 : Index := 0#32
  let c0_i32_42 : BitVec 32 := 0#32
  let c1_i32_44 : BitVec 32 := 1#32
  let arg13 : BitVec 32 := Scf.iv c0_i32_42 c1_i32_44 k0_t1
  let c128_i32 : BitVec 32 := 128#32
  let v958 : BitVec 32 := Scalar.muli arg13 c128_i32
  let v959 : Index := Scalar.indexCast v958
  ![0, v959.toNat]
def k0_off2 (k0_t1 : Fin k0_t1_loop.trips) : Fin 3 → Nat :=
  let c0_i32_42 : BitVec 32 := 0#32
  let c1_i32_44 : BitVec 32 := 1#32
  let arg13 : BitVec 32 := Scf.iv c0_i32_42 c1_i32_44 k0_t1
  let v961 : Index := Scalar.indexCast arg13
  let c0_691 : Index := 0#32
  let c0_692 : Index := 0#32
  ![v961.toNat, 0, 0]
def k0_off3 (k0_t1 : Fin k0_t1_loop.trips) : Fin 2 → Nat :=
  let c0_i32_42 : BitVec 32 := 0#32
  let c1_i32_44 : BitVec 32 := 1#32
  let arg13 : BitVec 32 := Scf.iv c0_i32_42 c1_i32_44 k0_t1
  let c128_i32_701 : BitVec 32 := 128#32
  let v984 : BitVec 32 := Scalar.muli arg13 c128_i32_701
  let v985 : Index := Scalar.indexCast v984
  let c0_702 : Index := 0#32
  ![v985.toNat, 0]
def k0_dev3 (d0 : Dev nD) : Nat :=
  let c0_i32_60 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_59 : BitVec 32 := 1#32
  let v100 : BitVec 32 := Scalar.muli v4 c1_i32_59
  let v101 : BitVec 32 := Scalar.addi c0_i32_60 v100
  v101.toNat
@[reducible] def k0_t2_loop : Scf.Loop 32 :=
  let c0_i32_91 : BitVec 32 := 0#32
  let c8_i32_92 : BitVec 32 := 8#32
  let v177 : BitVec 32 := Scalar.addi c0_i32_91 c8_i32_92
  let c1_i32_93 : BitVec 32 := 1#32
  ⟨c0_i32_91, v177, c1_i32_93⟩
def k0_off4 (k0_t2 : Fin k0_t2_loop.trips) : Fin 2 → Nat :=
  let c0_690 : Index := 0#32
  let c0_i32_91 : BitVec 32 := 0#32
  let c1_i32_93 : BitVec 32 := 1#32
  let arg13 : BitVec 32 := Scf.iv c0_i32_91 c1_i32_93 k0_t2
  let c128_i32 : BitVec 32 := 128#32
  let v958 : BitVec 32 := Scalar.muli arg13 c128_i32
  let v959 : Index := Scalar.indexCast v958
  ![0, v959.toNat]
def k0_off5 (k0_t2 : Fin k0_t2_loop.trips) : Fin 3 → Nat :=
  let c0_i32_91 : BitVec 32 := 0#32
  let c1_i32_93 : BitVec 32 := 1#32
  let arg13 : BitVec 32 := Scf.iv c0_i32_91 c1_i32_93 k0_t2
  let v961 : Index := Scalar.indexCast arg13
  let c0_691 : Index := 0#32
  let c0_692 : Index := 0#32
  ![v961.toNat, 0, 0]
def k0_off6 (k0_t2 : Fin k0_t2_loop.trips) : Fin 2 → Nat :=
  let c0_i32_91 : BitVec 32 := 0#32
  let c1_i32_93 : BitVec 32 := 1#32
  let arg13 : BitVec 32 := Scf.iv c0_i32_91 c1_i32_93 k0_t2
  let c128_i32_701 : BitVec 32 := 128#32
  let v984 : BitVec 32 := Scalar.muli arg13 c128_i32_701
  let v985 : Index := Scalar.indexCast v984
  let c0_702 : Index := 0#32
  ![v985.toNat, 0]
def k0_dev4 (d0 : Dev nD) : Nat :=
  let c0_i32_101 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_100 : BitVec 32 := 1#32
  let v183 : BitVec 32 := Scalar.muli v4 c1_i32_100
  let v184 : BitVec 32 := Scalar.addi c0_i32_101 v183
  v184.toNat
def k0_dev5 (d0 : Dev nD) : Nat :=
  let c0_i32_120 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_119 : BitVec 32 := 1#32
  let v201 : BitVec 32 := Scalar.muli v4 c1_i32_119
  let v202 : BitVec 32 := Scalar.addi c0_i32_120 v201
  v202.toNat
@[reducible] def k0_t3_loop : Scf.Loop 32 :=
  let c0_i32_151 : BitVec 32 := 0#32
  let c8_i32_152 : BitVec 32 := 8#32
  let v278 : BitVec 32 := Scalar.addi c0_i32_151 c8_i32_152
  let c1_i32_153 : BitVec 32 := 1#32
  ⟨c0_i32_151, v278, c1_i32_153⟩
def k0_off7 (k0_t3 : Fin k0_t3_loop.trips) : Fin 2 → Nat :=
  let c0_690 : Index := 0#32
  let c0_i32_151 : BitVec 32 := 0#32
  let c1_i32_153 : BitVec 32 := 1#32
  let arg13 : BitVec 32 := Scf.iv c0_i32_151 c1_i32_153 k0_t3
  let c128_i32 : BitVec 32 := 128#32
  let v958 : BitVec 32 := Scalar.muli arg13 c128_i32
  let v959 : Index := Scalar.indexCast v958
  ![0, v959.toNat]
def k0_off8 (k0_t3 : Fin k0_t3_loop.trips) : Fin 3 → Nat :=
  let c0_i32_151 : BitVec 32 := 0#32
  let c1_i32_153 : BitVec 32 := 1#32
  let arg13 : BitVec 32 := Scf.iv c0_i32_151 c1_i32_153 k0_t3
  let v961 : Index := Scalar.indexCast arg13
  let c0_691 : Index := 0#32
  let c0_692 : Index := 0#32
  ![v961.toNat, 0, 0]
def k0_off9 (k0_t3 : Fin k0_t3_loop.trips) : Fin 2 → Nat :=
  let c0_i32_151 : BitVec 32 := 0#32
  let c1_i32_153 : BitVec 32 := 1#32
  let arg13 : BitVec 32 := Scf.iv c0_i32_151 c1_i32_153 k0_t3
  let c128_i32_701 : BitVec 32 := 128#32
  let v984 : BitVec 32 := Scalar.muli arg13 c128_i32_701
  let v985 : Index := Scalar.indexCast v984
  let c0_702 : Index := 0#32
  ![v985.toNat, 0]
def k0_dev6 (d0 : Dev nD) : Nat :=
  let c0_i32_176 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_175 : BitVec 32 := 1#32
  let v296 : BitVec 32 := Scalar.muli v4 c1_i32_175
  let v297 : BitVec 32 := Scalar.addi c0_i32_176 v296
  v297.toNat
def k0_dev7 (d0 : Dev nD) : Nat :=
  let c0_i32_195 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_194 : BitVec 32 := 1#32
  let v314 : BitVec 32 := Scalar.muli v4 c1_i32_194
  let v315 : BitVec 32 := Scalar.addi c0_i32_195 v314
  v315.toNat
@[reducible] def k0_t4_loop : Scf.Loop 32 :=
  let c0_i32_226 : BitVec 32 := 0#32
  let c8_i32_227 : BitVec 32 := 8#32
  let v391 : BitVec 32 := Scalar.addi c0_i32_226 c8_i32_227
  let c1_i32_228 : BitVec 32 := 1#32
  ⟨c0_i32_226, v391, c1_i32_228⟩
def k0_off10 (k0_t4 : Fin k0_t4_loop.trips) : Fin 2 → Nat :=
  let c0_690 : Index := 0#32
  let c0_i32_226 : BitVec 32 := 0#32
  let c1_i32_228 : BitVec 32 := 1#32
  let arg13 : BitVec 32 := Scf.iv c0_i32_226 c1_i32_228 k0_t4
  let c128_i32 : BitVec 32 := 128#32
  let v958 : BitVec 32 := Scalar.muli arg13 c128_i32
  let v959 : Index := Scalar.indexCast v958
  ![0, v959.toNat]
def k0_off11 (k0_t4 : Fin k0_t4_loop.trips) : Fin 3 → Nat :=
  let c0_i32_226 : BitVec 32 := 0#32
  let c1_i32_228 : BitVec 32 := 1#32
  let arg13 : BitVec 32 := Scf.iv c0_i32_226 c1_i32_228 k0_t4
  let v961 : Index := Scalar.indexCast arg13
  let c0_691 : Index := 0#32
  let c0_692 : Index := 0#32
  ![v961.toNat, 0, 0]
def k0_off12 (k0_t4 : Fin k0_t4_loop.trips) : Fin 2 → Nat :=
  let c0_i32_226 : BitVec 32 := 0#32
  let c1_i32_228 : BitVec 32 := 1#32
  let arg13 : BitVec 32 := Scf.iv c0_i32_226 c1_i32_228 k0_t4
  let c128_i32_701 : BitVec 32 := 128#32
  let v984 : BitVec 32 := Scalar.muli arg13 c128_i32_701
  let v985 : Index := Scalar.indexCast v984
  let c0_702 : Index := 0#32
  ![v985.toNat, 0]
def k0_dev8 (d0 : Dev nD) : Nat :=
  let c0_i32_251 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_250 : BitVec 32 := 1#32
  let v409 : BitVec 32 := Scalar.muli v4 c1_i32_250
  let v410 : BitVec 32 := Scalar.addi c0_i32_251 v409
  v410.toNat
def k0_dev9 (d0 : Dev nD) : Nat :=
  let c0_i32_270 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_269 : BitVec 32 := 1#32
  let v427 : BitVec 32 := Scalar.muli v4 c1_i32_269
  let v428 : BitVec 32 := Scalar.addi c0_i32_270 v427
  v428.toNat
@[reducible] def k0_t5_loop : Scf.Loop 32 :=
  let c0_i32_301 : BitVec 32 := 0#32
  let c8_i32_302 : BitVec 32 := 8#32
  let v504 : BitVec 32 := Scalar.addi c0_i32_301 c8_i32_302
  let c1_i32_303 : BitVec 32 := 1#32
  ⟨c0_i32_301, v504, c1_i32_303⟩
def k0_off13 (k0_t5 : Fin k0_t5_loop.trips) : Fin 2 → Nat :=
  let c0_690 : Index := 0#32
  let c0_i32_301 : BitVec 32 := 0#32
  let c1_i32_303 : BitVec 32 := 1#32
  let arg13 : BitVec 32 := Scf.iv c0_i32_301 c1_i32_303 k0_t5
  let c128_i32 : BitVec 32 := 128#32
  let v958 : BitVec 32 := Scalar.muli arg13 c128_i32
  let v959 : Index := Scalar.indexCast v958
  ![0, v959.toNat]
def k0_off14 (k0_t5 : Fin k0_t5_loop.trips) : Fin 3 → Nat :=
  let c0_i32_301 : BitVec 32 := 0#32
  let c1_i32_303 : BitVec 32 := 1#32
  let arg13 : BitVec 32 := Scf.iv c0_i32_301 c1_i32_303 k0_t5
  let v961 : Index := Scalar.indexCast arg13
  let c0_691 : Index := 0#32
  let c0_692 : Index := 0#32
  ![v961.toNat, 0, 0]
def k0_off15 (k0_t5 : Fin k0_t5_loop.trips) : Fin 2 → Nat :=
  let c0_i32_301 : BitVec 32 := 0#32
  let c1_i32_303 : BitVec 32 := 1#32
  let arg13 : BitVec 32 := Scf.iv c0_i32_301 c1_i32_303 k0_t5
  let c128_i32_701 : BitVec 32 := 128#32
  let v984 : BitVec 32 := Scalar.muli arg13 c128_i32_701
  let v985 : Index := Scalar.indexCast v984
  let c0_702 : Index := 0#32
  ![v985.toNat, 0]
def k0_dev10 (d0 : Dev nD) : Nat :=
  let c0_i32_326 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_325 : BitVec 32 := 1#32
  let v522 : BitVec 32 := Scalar.muli v4 c1_i32_325
  let v523 : BitVec 32 := Scalar.addi c0_i32_326 v522
  v523.toNat
def k0_dev11 (d0 : Dev nD) : Nat :=
  let c0_i32_345 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_344 : BitVec 32 := 1#32
  let v540 : BitVec 32 := Scalar.muli v4 c1_i32_344
  let v541 : BitVec 32 := Scalar.addi c0_i32_345 v540
  v541.toNat
@[reducible] def k0_t6_loop : Scf.Loop 32 :=
  let c0_i32_376 : BitVec 32 := 0#32
  let c8_i32_377 : BitVec 32 := 8#32
  let v617 : BitVec 32 := Scalar.addi c0_i32_376 c8_i32_377
  let c1_i32_378 : BitVec 32 := 1#32
  ⟨c0_i32_376, v617, c1_i32_378⟩
def k0_off16 (k0_t6 : Fin k0_t6_loop.trips) : Fin 2 → Nat :=
  let c0_690 : Index := 0#32
  let c0_i32_376 : BitVec 32 := 0#32
  let c1_i32_378 : BitVec 32 := 1#32
  let arg13 : BitVec 32 := Scf.iv c0_i32_376 c1_i32_378 k0_t6
  let c128_i32 : BitVec 32 := 128#32
  let v958 : BitVec 32 := Scalar.muli arg13 c128_i32
  let v959 : Index := Scalar.indexCast v958
  ![0, v959.toNat]
def k0_off17 (k0_t6 : Fin k0_t6_loop.trips) : Fin 3 → Nat :=
  let c0_i32_376 : BitVec 32 := 0#32
  let c1_i32_378 : BitVec 32 := 1#32
  let arg13 : BitVec 32 := Scf.iv c0_i32_376 c1_i32_378 k0_t6
  let v961 : Index := Scalar.indexCast arg13
  let c0_691 : Index := 0#32
  let c0_692 : Index := 0#32
  ![v961.toNat, 0, 0]
def k0_off18 (k0_t6 : Fin k0_t6_loop.trips) : Fin 2 → Nat :=
  let c0_i32_376 : BitVec 32 := 0#32
  let c1_i32_378 : BitVec 32 := 1#32
  let arg13 : BitVec 32 := Scf.iv c0_i32_376 c1_i32_378 k0_t6
  let c128_i32_701 : BitVec 32 := 128#32
  let v984 : BitVec 32 := Scalar.muli arg13 c128_i32_701
  let v985 : Index := Scalar.indexCast v984
  let c0_702 : Index := 0#32
  ![v985.toNat, 0]
def k0_dev12 (d0 : Dev nD) : Nat :=
  let c0_i32_401 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_400 : BitVec 32 := 1#32
  let v635 : BitVec 32 := Scalar.muli v4 c1_i32_400
  let v636 : BitVec 32 := Scalar.addi c0_i32_401 v635
  v636.toNat
def k0_dev13 (d0 : Dev nD) : Nat :=
  let c0_i32_421 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_420 : BitVec 32 := 1#32
  let v653 : BitVec 32 := Scalar.muli v4 c1_i32_420
  let v654 : BitVec 32 := Scalar.addi c0_i32_421 v653
  v654.toNat
@[reducible] def k0_t7_loop : Scf.Loop 32 :=
  let c0_i32_452 : BitVec 32 := 0#32
  let c8_i32_453 : BitVec 32 := 8#32
  let v730 : BitVec 32 := Scalar.addi c0_i32_452 c8_i32_453
  let c1_i32_454 : BitVec 32 := 1#32
  ⟨c0_i32_452, v730, c1_i32_454⟩
def k0_off19 (k0_t7 : Fin k0_t7_loop.trips) : Fin 2 → Nat :=
  let c0_690 : Index := 0#32
  let c0_i32_452 : BitVec 32 := 0#32
  let c1_i32_454 : BitVec 32 := 1#32
  let arg13 : BitVec 32 := Scf.iv c0_i32_452 c1_i32_454 k0_t7
  let c128_i32 : BitVec 32 := 128#32
  let v958 : BitVec 32 := Scalar.muli arg13 c128_i32
  let v959 : Index := Scalar.indexCast v958
  ![0, v959.toNat]
def k0_off20 (k0_t7 : Fin k0_t7_loop.trips) : Fin 3 → Nat :=
  let c0_i32_452 : BitVec 32 := 0#32
  let c1_i32_454 : BitVec 32 := 1#32
  let arg13 : BitVec 32 := Scf.iv c0_i32_452 c1_i32_454 k0_t7
  let v961 : Index := Scalar.indexCast arg13
  let c0_691 : Index := 0#32
  let c0_692 : Index := 0#32
  ![v961.toNat, 0, 0]
def k0_off21 (k0_t7 : Fin k0_t7_loop.trips) : Fin 2 → Nat :=
  let c0_i32_452 : BitVec 32 := 0#32
  let c1_i32_454 : BitVec 32 := 1#32
  let arg13 : BitVec 32 := Scf.iv c0_i32_452 c1_i32_454 k0_t7
  let c128_i32_701 : BitVec 32 := 128#32
  let v984 : BitVec 32 := Scalar.muli arg13 c128_i32_701
  let v985 : Index := Scalar.indexCast v984
  let c0_702 : Index := 0#32
  ![v985.toNat, 0]
def k0_dev14 (d0 : Dev nD) : Nat :=
  let c0_i32_477 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_476 : BitVec 32 := 1#32
  let v748 : BitVec 32 := Scalar.muli v4 c1_i32_476
  let v749 : BitVec 32 := Scalar.addi c0_i32_477 v748
  v749.toNat
@[reducible] def k0_t8_loop : Scf.Loop 32 :=
  let c0_i32_519 : BitVec 32 := 0#32
  let c8_i32_520 : BitVec 32 := 8#32
  let v833 : BitVec 32 := Scalar.addi c0_i32_519 c8_i32_520
  let c1_i32_521 : BitVec 32 := 1#32
  ⟨c0_i32_519, v833, c1_i32_521⟩
def k0_off22 (k0_t8 : Fin k0_t8_loop.trips) : Fin 2 → Nat :=
  let c0_690 : Index := 0#32
  let c0_i32_519 : BitVec 32 := 0#32
  let c1_i32_521 : BitVec 32 := 1#32
  let arg13 : BitVec 32 := Scf.iv c0_i32_519 c1_i32_521 k0_t8
  let c128_i32 : BitVec 32 := 128#32
  let v958 : BitVec 32 := Scalar.muli arg13 c128_i32
  let v959 : Index := Scalar.indexCast v958
  ![0, v959.toNat]
def k0_off23 (k0_t8 : Fin k0_t8_loop.trips) : Fin 3 → Nat :=
  let c0_i32_519 : BitVec 32 := 0#32
  let c1_i32_521 : BitVec 32 := 1#32
  let arg13 : BitVec 32 := Scf.iv c0_i32_519 c1_i32_521 k0_t8
  let v961 : Index := Scalar.indexCast arg13
  let c0_691 : Index := 0#32
  let c0_692 : Index := 0#32
  ![v961.toNat, 0, 0]
def k0_off24 (k0_t8 : Fin k0_t8_loop.trips) : Fin 2 → Nat :=
  let c0_i32_519 : BitVec 32 := 0#32
  let c1_i32_521 : BitVec 32 := 1#32
  let arg13 : BitVec 32 := Scf.iv c0_i32_519 c1_i32_521 k0_t8
  let c128_i32_701 : BitVec 32 := 128#32
  let v984 : BitVec 32 := Scalar.muli arg13 c128_i32_701
  let v985 : Index := Scalar.indexCast v984
  let c0_702 : Index := 0#32
  ![v985.toNat, 0]
def k0_dev15 (d0 : Dev nD) : Nat :=
  let c0_i32_544 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_543 : BitVec 32 := 1#32
  let v851 : BitVec 32 := Scalar.muli v4 c1_i32_543
  let v852 : BitVec 32 := Scalar.addi c0_i32_544 v851
  v852.toNat
abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1x2048x1024 : Shape := ⟨3, ![1, 2048, 1024]⟩
abbrev S1024x8192 : Shape := ⟨2, ![1024, 8192]⟩
abbrev S1x4096x64x128 : Shape := ⟨4, ![1, 4096, 64, 128]⟩
abbrev S8192x1024 : Shape := ⟨2, ![8192, 1024]⟩
abbrev S1x2048x8192 : Shape := ⟨3, ![1, 2048, 8192]⟩
abbrev S1x2048x64x128 : Shape := ⟨4, ![1, 2048, 64, 128]⟩
abbrev S2048 : Shape := ⟨1, ![2048]⟩
abbrev S_ : Shape := ⟨0, ![]⟩
abbrev S2048x1 : Shape := ⟨2, ![2048, 1]⟩
abbrev S4096 : Shape := ⟨1, ![4096]⟩
abbrev S1x4096 : Shape := ⟨2, ![1, 4096]⟩
abbrev S2048x4096 : Shape := ⟨2, ![2048, 4096]⟩
abbrev S1x64x2048x4096 : Shape := ⟨4, ![1, 64, 2048, 4096]⟩
abbrev S1x1x2048x4096 : Shape := ⟨4, ![1, 1, 2048, 4096]⟩
abbrev S1x64x2048 : Shape := ⟨3, ![1, 64, 2048]⟩
abbrev S1x64x2048x1 : Shape := ⟨4, ![1, 64, 2048, 1]⟩
abbrev S1x1x2048x1 : Shape := ⟨4, ![1, 1, 2048, 1]⟩
abbrev S1x64x128x2048 : Shape := ⟨4, ![1, 64, 128, 2048]⟩

abbrev nBuf : Space → Nat
  | .hbm => 89
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1024x8192, .f32⟩
  | .hbm, ⟨2, _⟩ => ⟨S1x4096x64x128, .f32⟩
  | .hbm, ⟨3, _⟩ => ⟨S1x4096x64x128, .f32⟩
  | .hbm, ⟨4, _⟩ => ⟨S8192x1024, .f32⟩
  | .hbm, ⟨5, _⟩ => ⟨S1x2048x8192, .f32⟩
  | .hbm, ⟨6, _⟩ => ⟨S1x2048x64x128, .f32⟩
  | .hbm, ⟨7, _⟩ => ⟨S2048, .i32⟩
  | .hbm, ⟨8, _⟩ => ⟨S_, .i32⟩
  | .hbm, ⟨9, _⟩ => ⟨S_, .i32⟩
  | .hbm, ⟨10, _⟩ => ⟨S2048, .i32⟩
  | .hbm, ⟨11, _⟩ => ⟨S2048, .i32⟩
  | .hbm, ⟨12, _⟩ => ⟨S2048, .i32⟩
  | .hbm, ⟨13, _⟩ => ⟨S_, .i32⟩
  | .hbm, ⟨14, _⟩ => ⟨S2048, .i32⟩
  | .hbm, ⟨15, _⟩ => ⟨S2048, .i1⟩
  | .hbm, ⟨16, _⟩ => ⟨S2048, .i32⟩
  | .hbm, ⟨17, _⟩ => ⟨S2048, .i32⟩
  | .hbm, ⟨18, _⟩ => ⟨S_, .i32⟩
  | .hbm, ⟨19, _⟩ => ⟨S2048, .i32⟩
  | .hbm, ⟨20, _⟩ => ⟨S2048, .i1⟩
  | .hbm, ⟨21, _⟩ => ⟨S2048, .i1⟩
  | .hbm, ⟨22, _⟩ => ⟨S_, .i32⟩
  | .hbm, ⟨23, _⟩ => ⟨S2048, .i32⟩
  | .hbm, ⟨24, _⟩ => ⟨S2048, .i32⟩
  | .hbm, ⟨25, _⟩ => ⟨S2048, .i32⟩
  | .hbm, ⟨26, _⟩ => ⟨S2048x1, .i32⟩
  | .hbm, ⟨27, _⟩ => ⟨S4096, .i32⟩
  | .hbm, ⟨28, _⟩ => ⟨S_, .i32⟩
  | .hbm, ⟨29, _⟩ => ⟨S_, .i32⟩
  | .hbm, ⟨30, _⟩ => ⟨S4096, .i32⟩
  | .hbm, ⟨31, _⟩ => ⟨S4096, .i32⟩
  | .hbm, ⟨32, _⟩ => ⟨S4096, .i32⟩
  | .hbm, ⟨33, _⟩ => ⟨S_, .i32⟩
  | .hbm, ⟨34, _⟩ => ⟨S4096, .i32⟩
  | .hbm, ⟨35, _⟩ => ⟨S4096, .i1⟩
  | .hbm, ⟨36, _⟩ => ⟨S4096, .i32⟩
  | .hbm, ⟨37, _⟩ => ⟨S4096, .i32⟩
  | .hbm, ⟨38, _⟩ => ⟨S_, .i32⟩
  | .hbm, ⟨39, _⟩ => ⟨S4096, .i32⟩
  | .hbm, ⟨40, _⟩ => ⟨S4096, .i1⟩
  | .hbm, ⟨41, _⟩ => ⟨S4096, .i1⟩
  | .hbm, ⟨42, _⟩ => ⟨S_, .i32⟩
  | .hbm, ⟨43, _⟩ => ⟨S4096, .i32⟩
  | .hbm, ⟨44, _⟩ => ⟨S4096, .i32⟩
  | .hbm, ⟨45, _⟩ => ⟨S4096, .i32⟩
  | .hbm, ⟨46, _⟩ => ⟨S1x4096, .i32⟩
  | .hbm, ⟨47, _⟩ => ⟨S2048x4096, .i32⟩
  | .hbm, ⟨48, _⟩ => ⟨S2048x4096, .i32⟩
  | .hbm, ⟨49, _⟩ => ⟨S2048x4096, .i1⟩
  | .hbm, ⟨50, _⟩ => ⟨S1x64x2048x4096, .f32⟩
  | .hbm, ⟨51, _⟩ => ⟨S_, .f32⟩
  | .hbm, ⟨52, _⟩ => ⟨S1x64x2048x4096, .f32⟩
  | .hbm, ⟨53, _⟩ => ⟨S1x64x2048x4096, .f32⟩
  | .hbm, ⟨54, _⟩ => ⟨S1x1x2048x4096, .i1⟩
  | .hbm, ⟨55, _⟩ => ⟨S_, .f32⟩
  | .hbm, ⟨56, _⟩ => ⟨S_, .f32⟩
  | .hbm, ⟨57, _⟩ => ⟨S1x64x2048x4096, .i1⟩
  | .hbm, ⟨58, _⟩ => ⟨S1x64x2048x4096, .f32⟩
  | .hbm, ⟨59, _⟩ => ⟨S1x64x2048x4096, .f32⟩
  | .hbm, ⟨60, _⟩ => ⟨S_, .f32⟩
  | .hbm, ⟨61, _⟩ => ⟨S1x64x2048, .f32⟩
  | .hbm, ⟨62, _⟩ => ⟨S1x64x2048x1, .f32⟩
  | .hbm, ⟨63, _⟩ => ⟨S1x64x2048x4096, .f32⟩
  | .hbm, ⟨64, _⟩ => ⟨S1x64x2048x4096, .f32⟩
  | .hbm, ⟨65, _⟩ => ⟨S1x64x2048x4096, .f32⟩
  | .hbm, ⟨66, _⟩ => ⟨S_, .i1⟩
  | .hbm, ⟨67, _⟩ => ⟨S2048, .i1⟩
  | .hbm, ⟨68, _⟩ => ⟨S1x1x2048x1, .i1⟩
  | .hbm, ⟨69, _⟩ => ⟨S_, .f32⟩
  | .hbm, ⟨70, _⟩ => ⟨S1x64x2048, .f32⟩
  | .hbm, ⟨71, _⟩ => ⟨S1x64x2048x1, .f32⟩
  | .hbm, ⟨72, _⟩ => ⟨S_, .f32⟩
  | .hbm, ⟨73, _⟩ => ⟨S_, .f32⟩
  | .hbm, ⟨74, _⟩ => ⟨S1x64x2048x1, .i1⟩
  | .hbm, ⟨75, _⟩ => ⟨S1x64x2048x1, .f32⟩
  | .hbm, ⟨76, _⟩ => ⟨S1x64x2048x1, .f32⟩
  | .hbm, ⟨77, _⟩ => ⟨S1x64x2048x4096, .f32⟩
  | .hbm, ⟨78, _⟩ => ⟨S1x64x2048x4096, .f32⟩
  | .hbm, ⟨79, _⟩ => ⟨S1x1x2048x1, .i1⟩
  | .hbm, ⟨80, _⟩ => ⟨S_, .f32⟩
  | .hbm, ⟨81, _⟩ => ⟨S_, .f32⟩
  | .hbm, ⟨82, _⟩ => ⟨S1x64x2048x4096, .i1⟩
  | .hbm, ⟨83, _⟩ => ⟨S1x64x2048x4096, .f32⟩
  | .hbm, ⟨84, _⟩ => ⟨S1x64x2048x4096, .f32⟩
  | .hbm, ⟨85, _⟩ => ⟨S1x64x128x2048, .f32⟩
  | .hbm, ⟨86, _⟩ => ⟨S1x2048x64x128, .f32⟩
  | .hbm, ⟨87, _⟩ => ⟨S1x2048x8192, .f32⟩
  | .hbm, ⟨88, _⟩ => ⟨S1x2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_cst : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_cst_1 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v15 : Ref sig .tc := ⟨.hbm, 59, rfl⟩
abbrev main_cst_2 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_c_3 : Ref sig .tc := ⟨.hbm, 66, rfl⟩
abbrev main_v21 : Ref sig .tc := ⟨.hbm, 67, rfl⟩
abbrev main_v22 : Ref sig .tc := ⟨.hbm, 68, rfl⟩
abbrev main_cst_4 : Ref sig .tc := ⟨.hbm, 69, rfl⟩
abbrev main_v23 : Ref sig .tc := ⟨.hbm, 70, rfl⟩
abbrev main_v24 : Ref sig .tc := ⟨.hbm, 71, rfl⟩
abbrev main_cst_5 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_6 : Ref sig .tc := ⟨.hbm, 80, rfl⟩
abbrev main_call4_v0 : Ref sig .tc := ⟨.hbm, 81, rfl⟩
abbrev main_call4_v1 : Ref sig .tc := ⟨.hbm, 82, rfl⟩
abbrev main_call4_v2 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩

abbrev nD : Nat := 1
abbrev τ : Topo := Topo.v7x

variable {F : FTy → Type} [FloatOps F]
-- ==== Proof.Kern.lean ====
/- The device program written compactly: the ring's two chains of copies over slots of two scratch buffers, the
   attention over one slot's rows, and the equality of the printed body with it. -/
module

public import proofs.«01_k».proof.Proof.Gen.KernelIdeal.Skeleton

@[expose] public section

noncomputable section

namespace Cert.Proof

open Idealize.ShloMosaic Idealize.SL.Sem
open Cert.KernelIdeal Cert.KernelIdeal.Gen

variable {F : FTy → Type} [FloatOps F] [Named F]

/-! ## Slots and counters -/

/-- Slot `k` (counted modulo the eight slots) lies inside the scratch buffer. -/
theorem slot_inb (k : ℕ) : ∀ a, (![k % 8, 0, 0] : Fin 3 → ℕ) a + S1x256x1024.size a ≤ S8x256x1024.size a := by
  intro a
  fin_cases a
  · show k % 8 + 1 ≤ 8; omega
  · exact (by decide : 0 + 256 ≤ 256)
  · exact (by decide : 0 + 1024 ≤ 1024)

/-- Slot `k` of a scratch buffer of eight row blocks. -/
abbrev slotR (k : ℕ) : Rect S8x256x1024 := Rect.unit (s := S8x256x1024) ![k % 8, 0, 0] S1x256x1024.size (slot_inb k)

/-- Slot `k` as a block of rows. -/
abbrev slotM (m : Memref sig .tc .vmem S8x256x1024 .bf16) (k : ℕ) : Memref sig .tc .vmem S256x1024 .bf16 :=
  (m.slice (slotR k) (fun _ => rfl)).squeeze S256x1024 squeezes_S1x256x1024_S256x1024

/-- The rows of a slot fill whole packed words. -/
theorem slot_packed (k : ℕ) : (slotR k).PackedRows (EltTy.packing .bf16) := by
  refine Or.inr ⟨by decide, rfl, Or.inl ⟨?_, ?_⟩⟩
  · exact Nat.dvd_zero _
  · exact (by decide : EltTy.bf16.packing ∣ 256)

/-- So a slot is a whole number of words. -/
theorem slot_words (k : ℕ) : (slotR k).WholeWords (EltTy.packing .bf16) := (slot_packed k).wholeWords

/-- The buffer of gathered row blocks. -/
abbrev xM : Memref sig .tc .vmem S8x256x1024 .bf16 := Memref.whole cc0_scratch0
/-- The buffer of partial sums under way. -/
abbrev rM : Memref sig .tc .vmem S8x256x1024 .bf16 := Memref.whole cc0_scratch1
/-- The buffer of projected rows. -/
abbrev qM : Memref sig .tc .vmem S256x1024 .bf16 := Memref.whole cc0_scratch2

/-- A slot seen as a block of rows is a whole number of words. -/
theorem slotM_words {m : Memref sig .tc .vmem S8x256x1024 .bf16} (h : m.IsWhole) (k : ℕ) : (slotM m k).view.WordExact :=
  (h.wordExact_slice rfl _ (slot_words k)).reshape _ _

/-- Semaphore `t` (counted modulo seven) lies inside its array. -/
theorem sem_inb (t : ℕ) : ∀ a, (![t % 7] : Fin 1 → ℕ) a + S1.size a ≤ S7.size a := by
  intro a
  fin_cases a
  show t % 7 + 1 ≤ 7; omega

/-- Semaphore `t` of an array of seven. -/
abbrev semA (s : DmaSems sig S7) (t : ℕ) : DmaSem sig :=
  ((s.slice (Rect.unit (s := S7) ![t % 7] S1.size (sem_inb t))).squeeze S_ squeezes_S1_S_).sem

/-! ## The program -/

section
variable (a0 : Memref sig .tc .vmem S256x1024 .bf16) (a1 : Memref sig .tc .vmem S1024x1024 .bf16)
  (a2 a3 : Memref sig .tc .vmem S8x2048x128 .bf16) (a4 : Memref sig .tc .vmem S1024x1024 .bf16)
  (a5 : Memref sig .tc .vmem S256x1024 .f32)

/-- The right neighbour, as the program computes it. -/
abbrev rightOf (d : Dev nD) : Dev nD := ⟨k0_dev2 d, k0_dev2_lt d⟩

/-- A device's place in the ring, as a word. -/
abbrev place (d : Dev nD) : BitVec 32 := Scalar.remsi (Scalar.divsi (Dev.word d) 1#32) 8#32
/-- The place whose rows arrive in step `t`, as a word. -/
abbrev chunk (d : Dev nD) (t : ℕ) : BitVec 32 :=
  Scalar.remsi (Scalar.addi (Scalar.subi (place d) (BitVec.ofNat 32 (t + 1))) 8#32) 8#32

/-- Start step `t` of the gathering chain: slot `t` to the right neighbour's slot `t+1`. -/
abbrev agStart (d : Dev nD) (t : ℕ) : Prog (TpuEff nD τ sig (Elt F) Λ₀ .tc) PUnit :=
  Prog.lift (.enqueueDma (slotM xM t) (.remote (Dev.tc (rightOf d)) (slotM xM (t + 1)) (.dma (semA cc0_scratch3 t)))
    (.dma (semA cc0_scratch4 t)) (slotM_words (Memref.isWhole_whole _) t) (slotM_words (Memref.isWhole_whole _) (t + 1))
    ⟨⟨rfl, Or.inl rfl⟩, trivial⟩)

/-- Start step `t` of the summing chain: the slot before `t` to the right neighbour's slot `t`. -/
abbrev rsStart (d : Dev nD) (t : ℕ) : Prog (TpuEff nD τ sig (Elt F) Λ₀ .tc) PUnit :=
  Prog.lift (.enqueueDma (slotM rM (t + 7)) (.remote (Dev.tc (rightOf d)) (slotM rM t) (.dma (semA cc0_scratch5 t)))
    (.dma (semA cc0_scratch6 t)) (slotM_words (Memref.isWhole_whole _) (t + 7)) (slotM_words (Memref.isWhole_whole _) t)
    ⟨⟨rfl, Or.inl rfl⟩, trivial⟩)

/-- Wait for step `t` of the gathering chain to arrive. -/
abbrev agWait (t : ℕ) : Prog (TpuEff nD τ sig (Elt F) Λ₀ .tc) PUnit :=
  Prog.lift (.waitDma2 (semA cc0_scratch4 t) (slotM xM t) (slotM xM (t + 1))
    (slotM_words (Memref.isWhole_whole _) t) (slotM_words (Memref.isWhole_whole _) (t + 1)))

/-- Wait for step `t` of the summing chain to arrive. -/
abbrev rsWait (t : ℕ) : Prog (TpuEff nD τ sig (Elt F) Λ₀ .tc) PUnit :=
  Prog.lift (.waitDma2 (semA cc0_scratch6 t) (slotM rM (t + 7)) (slotM rM t)
    (slotM_words (Memref.isWhole_whole _) (t + 7)) (slotM_words (Memref.isWhole_whole _) t))

/-- Wait until step `t` of the gathering chain has left. -/
abbrev agSent (t : ℕ) : Prog (TpuEff nD τ sig (Elt F) Λ₀ .tc) PUnit :=
  Prog.lift (.waitDma2 (semA cc0_scratch3 t) (slotM xM (t + 1)) (slotM xM t)
    (slotM_words (Memref.isWhole_whole _) (t + 1)) (slotM_words (Memref.isWhole_whole _) t))

/-- Wait until step `t` of the summing chain has left. -/
abbrev rsSent (t : ℕ) : Prog (TpuEff nD τ sig (Elt F) Λ₀ .tc) PUnit :=
  Prog.lift (.waitDma2 (semA cc0_scratch5 t) (slotM rM t) (slotM rM (t + 7))
    (slotM_words (Memref.isWhole_whole _) t) (slotM_words (Memref.isWhole_whole _) (t + 7)))

/-- Read slot `k`. -/
abbrev slotLoad (m : Memref sig .tc .vmem S8x256x1024 .bf16) (k : ℕ) :
    Prog (TpuEff nD τ sig (Elt F) Λ₀ .tc) (Vec F S1x256x1024 .bf16) :=
  Prog.lift (.load m (slotR k).toLoadRect (View.loadsAt_vmem h_S1x256x1024))

/-- Write slot `k`. -/
abbrev slotStore {m : Memref sig .tc .vmem S8x256x1024 .bf16} (hm : m.IsWhole) (k : ℕ) (v : Vec F S1x256x1024 .bf16) :
    Prog (TpuEff nD τ sig (Elt F) Λ₀ .tc) PUnit :=
  Prog.lift (.store m (slotR k) v Finset.univ
    (View.stores_vmem h_S1x256x1024 (hm.storeExact_slice rfl _ (slot_packed k)) (fun _ => rfl)) (.inl rfl))

/-- Read a whole block of 256 rows. -/
abbrev rowsLoad {e : EltTy} (m : Memref sig .tc .vmem S256x1024 e) :
    Prog (TpuEff nD τ sig (Elt F) Λ₀ .tc) (Vec F S256x1024 e) :=
  Prog.lift (.load m (Rect.unit (s := S256x1024) ![0, 0] S256x1024.size inb_S256x1024_S256x1024_0_0).toLoadRect
    (View.loadsAt_vmem h_S256x1024))

/-- Read a whole weight block. -/
abbrev weightLoad (m : Memref sig .tc .vmem S1024x1024 .bf16) :
    Prog (TpuEff nD τ sig (Elt F) Λ₀ .tc) (Vec F S1024x1024 .bf16) :=
  Prog.lift (.load m (Rect.unit (s := S1024x1024) ![0, 0] S1024x1024.size inb_S1024x1024_S1024x1024_0_0).toLoadRect
    (View.loadsAt_vmem h_S1024x1024))

/-- Write the projected rows. -/
abbrev qStore (v : Vec F S256x1024 .bf16) : Prog (TpuEff nD τ sig (Elt F) Λ₀ .tc) PUnit :=
  Prog.lift (.store qM (Rect.unit (s := S256x1024) ![0, 0] S256x1024.size inb_S256x1024_S256x1024_0_0) v Finset.univ
    (View.stores_vmem h_S256x1024
      ((Memref.isWhole_whole cc0_scratch2).storeExact_slice rfl _ packedbf16_S256x1024_S256x1024_0_0) (fun _ => rfl)) (.inl rfl))

/-- Write the result block. -/
abbrev outStore (v : Vec F S256x1024 .f32) : Prog (TpuEff nD τ sig (Elt F) Λ₀ .tc) PUnit :=
  Prog.lift (.store a5 (Rect.unit (s := S256x1024) ![0, 0] S256x1024.size inb_S256x1024_S256x1024_0_0) v Finset.univ
    (View.stores_vmem_bits_univ h_S256x1024 rfl) (.inl rfl))

/-- One head's share of the attention over the projected rows: what one trip of the loop over heads adds. -/
abbrev headStep (w : BitVec 32) (acc : FVec F S256x1024 .f32) (q : Vec F S256x128 .bf16) (kk vv : Vec F S1x2048x128 .bf16)
    (wo : Vec F S128x1024 .bf16) : FVec F S256x1024 .f32 :=
  k0_pay8 (k0_pay3 w) k0_pay4 64#32 (k0_pay5 w) (k0_pay6 w) 0#32 acc q kk vv wo

/-- One trip of the loop over heads. -/
def headBody (w : BitVec 32) (k : Fin k0_t1_loop.trips) (acc : FVec F S256x1024 .f32) :
    Prog (TpuEff nD τ sig (Elt F) Λ₀ .tc) (FVec F S256x1024 .f32) := do
  let q : Vec F S256x128 .bf16 ← Prog.lift (.load qM (Rect.unit (s := S256x1024) (k0_off1 k) S256x128.size (k0_off1_inb k)).toLoadRect (View.loadsAt_vmem h_S256x128))
  let kk : Vec F S1x2048x128 .bf16 ← Prog.lift (.load a2 (Rect.unit (s := S8x2048x128) (k0_off2 k) S1x2048x128.size (k0_off2_inb k)).toLoadRect (View.loadsAt_vmem h_S1x2048x128))
  let vv : Vec F S1x2048x128 .bf16 ← Prog.lift (.load a3 (Rect.unit (s := S8x2048x128) (k0_off2 k) S1x2048x128.size (k0_off2_inb k)).toLoadRect (View.loadsAt_vmem h_S1x2048x128))
  let wo : Vec F S128x1024 .bf16 ← Prog.lift (.load a4 (Rect.unit (s := S1024x1024) (k0_off3 k) S128x1024.size (k0_off3_inb k)).toLoadRect (View.loadsAt_vmem h_S128x1024))
  pure (headStep w acc q kk vv wo)

/-- The loop over heads. -/
def heads (w : BitVec 32) : Prog (TpuEff nD τ sig (Elt F) Λ₀ .tc) (FVec F S256x1024 .f32) :=
  Scf.Loop.for k0_t1_loop k0_t1_ok (k0_pay7 (F := F)) (headBody a2 a3 a4 w)

/-- The attention over the rows of slot `t+1`. -/
def slotAttn (d : Dev nD) (t : ℕ) : Prog (TpuEff nD τ sig (Elt F) Λ₀ .tc) (FVec F S256x1024 .f32) := do
  let x ← slotLoad (F := F) xM (t + 1)
  let wq ← weightLoad a1
  let _q ← rowsLoad (F := F) qM
  qStore (k0_pay9 x wq)
  heads a2 a3 a4 (chunk d t)

/-- A later step of the ring: the partial sum of step `t` arrives, this device's share is added to it, and it goes on. -/
def sumStep (d : Dev nD) (t : ℕ) (pc : FVec F S256x1024 .f32) : Prog (TpuEff nD τ sig (Elt F) Λ₀ .tc) PUnit := do
  rsWait t
  let s ← slotLoad (F := F) rM t
  let _s ← slotLoad (F := F) rM t
  slotStore (Memref.isWhole_whole cc0_scratch1) t (k0_pay22 pc s)
  rsStart d (t + 1)

/-- A middle step of both chains: the next rows arrive and go on, and a partial sum arrives, grows by their attention, and goes on. -/
def ringStep (d : Dev nD) (t : ℕ) : Prog (TpuEff nD τ sig (Elt F) Λ₀ .tc) PUnit := do
  agWait (t + 1)
  agStart d (t + 2)
  let pc ← slotAttn a1 a2 a3 a4 d (t + 1)
  sumStep d t pc

/-- Wait until both chains' step `t` has left. -/
def sent (t : ℕ) : Prog (TpuEff nD τ sig (Elt F) Λ₀ .tc) PUnit := do
  agSent t
  rsSent t

/-- The body. -/
def kern : Prog (TpuEff nD τ sig (Elt F) Λ₀ .tc) PUnit := do
  let d : Dev nD ← Prog.lift .deviceId
  semSignalWord (⟨k0_dev1 d, k0_dev1_lt d⟩ : Dev nD) (SemArray.scalar (sig.barrier 0 rfl) : Sems sig S_).sem 1#32
  semWaitWord (SemArray.scalar (sig.barrier 0 rfl) : Sems sig S_).sem 1#32
  let x ← rowsLoad (F := F) a0
  let _x ← slotLoad (F := F) xM 0
  slotStore (Memref.isWhole_whole cc0_scratch0) 0 (k0_pay1 x)
  agStart d 0
  let x ← rowsLoad (F := F) a0
  let wq ← weightLoad a1
  let _q ← rowsLoad (F := F) qM
  qStore (k0_pay2 x wq)
  let own ← heads a2 a3 a4 (place d)
  agWait 0
  agStart d 1
  let pc ← slotAttn a1 a2 a3 a4 d 0
  let _r ← slotLoad (F := F) rM 7
  slotStore (Memref.isWhole_whole cc0_scratch1) 7 (k0_pay15 pc)
  rsStart d 0
  ringStep a1 a2 a3 a4 d 0
  ringStep a1 a2 a3 a4 d 1
  ringStep a1 a2 a3 a4 d 2
  ringStep a1 a2 a3 a4 d 3
  ringStep a1 a2 a3 a4 d 4
  agWait 6
  let pc ← slotAttn a1 a2 a3 a4 d 6
  sumStep d 5 pc
  rsWait 6
  let s ← slotLoad (F := F) rM 6
  let _o ← rowsLoad (F := F) a5
  outStore a5 (k0_pay66 own s)
  sent 0
  sent 1
  sent 2
  sent 3
  sent 4
  sent 5
  sent 6

set_option maxRecDepth 65536 in
set_option maxHeartbeats 4000000 in
/-- The printed body is the compact program. -/
theorem body_eq (h0 : a0.IsWhole) (h1 : a1.IsWhole) (h2 : a2.IsWhole) (h3 : a3.IsWhole) (h4 : a4.IsWhole) (h5 : a5.IsWhole) :
    cc0__body (F := F) a0 h0 a1 h1 a2 h2 a3 h3 a4 h4 a5 h5 xM (Memref.isWhole_whole _) rM (Memref.isWhole_whole _) qM
      (Memref.isWhole_whole _) cc0_scratch3 cc0_scratch4 cc0_scratch5 cc0_scratch6 = kern a0 a1 a2 a3 a4 a5 := by
  rw [cc0__body_eq_skeleton]
  unfold cc0__body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part1_skel, k0_part2_skel, k0_part3_skel, k0_part4_skel, k0_part5_skel, k0_part6_skel, k0_part7_skel, k0_part8_skel, k0_part9_skel, k0_part10_skel, k0_part11_skel, k0_part12_skel, k0_part13_skel, k0_part14_skel, k0_part15_skel, k0_part16_skel, k0_part17_skel, k0_part18_skel, k0_part19_skel, k0_part20_skel, k0_part21_skel, k0_part22_skel, k0_part23_skel, k0_part24_skel, k0_part25_skel, k0_part26_skel, k0_part27_skel, k0_part28_skel, k0_part29_skel, kern, ringStep, sent, slotAttn, sumStep, semSignalWord, semWaitWord, Prog.bind_lift, Prog.bind_assoc, Prog.bind_op, Prog.bind_ret, Prog.pure_eq_ret]
  rfl
end

end Cert.Proof

end
-- ==== Proof.Holds.lean ====
/- What the body's loads and stores do to slots and blocks held at named contents, and the loop over heads. -/
module

public import proofs.«01_k».proof.Proof.Kern
public import Idealize.ShloMosaic.Lib.Pipeline.Regions
public import Idealize.ShloMosaic.Lib.Pipeline.RegionTalk
public import Idealize.ShloMosaic.Lib.Rounds
public import Idealize.ShloMosaic.Lib.Tactic

@[expose] public section

noncomputable section

namespace Cert.Proof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

/-- Two round-state factors: one for the copies that stage the windows, one for the ring. -/
abbrev UU : Type := UR sig nD τ × UR sig nD τ

local notation "𝕄" => MT nD τ sig Unit (Elt F) ℕ UU ℕ

/-- No procedure calls carry a measure here. -/
abbrev 𝒱₀ : Variants := Variants.none

/-- A block of rows as the one slot of a buffer of slots. -/
abbrev slotOf {α : Type} (x : S256x1024.Idx → α) : S1x256x1024.Idx → α :=
  shapeCast S1x256x1024 x shapeCasts_S256x1024_S1x256x1024
/-- The slot's rows as a block. -/
abbrev rowsOf {α : Type} (x : S1x256x1024.Idx → α) : S256x1024.Idx → α :=
  shapeCast S256x1024 x shapeCasts_S1x256x1024_S256x1024

/-- Rows taken out of a slot and put back are the slot. -/
theorem slotOf_rowsOf {α : Type} (x : S1x256x1024.Idx → α) : slotOf (rowsOf x) = x := by
  funext j
  show x (Shape.reshapeEquiv _ (Shape.reshapeEquiv _ j)) = x j
  rw [Shape.reshapeEquiv_reshapeEquiv, Shape.reshapeEquiv_self]

/-- Rows put in a slot and taken out are the rows. -/
theorem rowsOf_slotOf {α : Type} (x : S256x1024.Idx → α) : rowsOf (slotOf x) = x := by
  funext j
  show x (Shape.reshapeEquiv _ (Shape.reshapeEquiv _ j)) = x j
  rw [Shape.reshapeEquiv_reshapeEquiv, Shape.reshapeEquiv_self]

/-- A slot's rows, read as a block of rows, are the slot read, its leading axis dropped. -/
theorem read_slotM (m : Memref sig .tc .vmem S8x256x1024 .bf16) (k : ℕ) (f : m.view.ty.Contents (Elt F)) :
    (slotM m k).view.read (Elt F) f = rowsOf ((m.access (slotR k)).read (Elt F) f) := rfl

/-- Both cover the same elements. -/
theorem set_slotM (m : Memref sig .tc .vmem S8x256x1024 .bf16) (k : ℕ) :
    (slotM m k).view.set = (m.access (slotR k)).set := View.set_reshape _ _

section
variable (c : Dev nD)

/-- Reading a slot held at `X` gives `X`. -/
theorem slotLoad_spec (m : Memref sig .tc .vmem S8x256x1024 .bf16) (k : ℕ) (q : PosShare TreeShare) (X : Vec F S256x1024 .bf16)
    (Q : Vec F S1x256x1024 .bf16 → sProp 𝕄) :
    (owns (c : Thread nD τ) (slotM m k) q X : sProp 𝕄)
      ⊢ iprop((owns (c : Thread nD τ) (slotM m k) q X -∗ Q (slotOf X))
        -∗ wp frame (wpE (defs₀ (F := F)) 𝒱₀ c none) Set.univ (slotLoad (F := F) m k) Q) := by
  unfold owns
  iintro ⟨%f, %hf, H⟩ Hk
  iapply (wp_load_rect (m := m) (r := slotR k) 𝒱₀ (c : Thread nD τ) none Set.univ (S := (slotM m k).view.set) (q := q) (f := f)
    (set_slotM m k).ge) $$ [H]
  · iexact H
  iintro H
  rw [wp_ret]
  imodintro
  have e : (m.access (slotR k)).read (Elt F) f = slotOf X := by
    rw [← hf, read_slotM, slotOf_rowsOf]
  rw [e]
  iapply Hk
  iexists f
  isplitr
  · ipureintro; exact hf
  iexact H

/-- Writing a slot leaves it at what was written. -/
theorem slotStore_spec {m : Memref sig .tc .vmem S8x256x1024 .bf16} (hm : m.IsWhole) (k : ℕ) (X : Vec F S256x1024 .bf16)
    (v : Vec F S1x256x1024 .bf16) (Q : PUnit → sProp 𝕄) :
    (owns (c : Thread nD τ) (slotM m k) fullShare X : sProp 𝕄)
      ⊢ iprop((owns (c : Thread nD τ) (slotM m k) fullShare (rowsOf v) -∗ Q ⟨⟩)
        -∗ wp frame (wpE (defs₀ (F := F)) 𝒱₀ c none) Set.univ (slotStore (F := F) hm k v) Q) := by
  unfold owns
  iintro ⟨%f, %hf, H⟩ Hk
  iapply (wp_store (m := m) (r := slotR k) 𝒱₀ (c : Thread nD τ) none Set.univ (S := (slotM m k).view.set) (f := f)
    (by rw [View.setOn_univ]; exact (set_slotM m k).ge)) $$ [H]
  · iexact H
  iintro H
  rw [wp_ret]
  imodintro
  iapply Hk
  iexists ((m.access (slotR k)).write (Elt F) f v Finset.univ)
  isplitr
  · ipureintro
    exact (read_slotM m k _).trans (congrArg rowsOf (View.read_write_univ _ _))
  iexact H

/-- Reading a rectangle of a block held at `X` gives `X` there. -/
theorem load_spec {s : Shape} {e : EltTy} (m : Memref sig .tc .vmem s e) (r : Rect s) (hl : m.view.LoadsAt r.toLoadRect)
    (q : PosShare TreeShare) (X : Vec F s e) (Q : (r.shape.Idx → Elt F e) → sProp 𝕄) :
    (owns (c : Thread nD τ) m q X : sProp 𝕄)
      ⊢ iprop((owns (c : Thread nD τ) m q X -∗ Q (fun i => X (r.emb i)))
        -∗ wp frame (wpE (defs₀ (F := F)) 𝒱₀ c none) Set.univ (Prog.lift (.load m r.toLoadRect hl)) Q) := by
  unfold owns
  iintro ⟨%f, %hf, H⟩ Hk
  iapply (wp_load (m := m) (r := r.toLoadRect) 𝒱₀ (c : Thread nD τ) none Set.univ (S := m.view.set) (q := q) (f := f)
    (by exact View.setOn_subset_set _ _)) $$ [H]
  · iexact H
  iintro H
  rw [wp_ret]
  imodintro
  have e' : m.view.readAt (Elt F) r.toLoadRect f = fun i => X (r.emb i) := by
    rw [← hf]; rfl
  rw [e']
  iapply Hk
  iexists f
  isplitr
  · ipureintro; exact hf
  iexact H

/-- Writing a whole block leaves it at what was written. -/
theorem store_spec {s : Shape} {e : EltTy} (m : Memref sig .tc .vmem s e) (r : Rect s) (w : r.shape.Idx → Elt F e)
    (hx : (m.access r).Stores Finset.univ) (hm) (hr : ∀ i, ∃ j, r.emb j = i) (X : Vec F s e) (Y : Vec F s e) (hY : ∀ j, Y (r.emb j) = w j)
    (Q : PUnit → sProp 𝕄) :
    (owns (c : Thread nD τ) m fullShare X : sProp 𝕄)
      ⊢ iprop((owns (c : Thread nD τ) m fullShare Y -∗ Q ⟨⟩)
        -∗ wp frame (wpE (defs₀ (F := F)) 𝒱₀ c none) Set.univ (Prog.lift (.store m r w Finset.univ hx hm)) Q) := by
  unfold owns
  iintro ⟨%f, %hf, H⟩ Hk
  iapply (wp_store (m := m) (r := r) 𝒱₀ (c : Thread nD τ) none Set.univ (S := m.view.set) (f := f)
    (by rw [View.setOn_univ, View.set_slice]; exact View.setOn_subset_set _ _)) $$ [H]
  · iexact H
  iintro H
  rw [wp_ret]
  imodintro
  iapply Hk
  iexists _
  isplitr
  · ipureintro
    funext i
    obtain ⟨j, rfl⟩ := hr i
    rw [hY]
    exact congrFun (View.read_write_univ (v := m.access r) (f := f) w) j
  iexact H

/-! ## Whole blocks -/

/-- The rectangle of a shape's own sizes places every index at itself. -/
theorem emb_full {s : Shape} {off : Fin s.rank → ℕ} (inb : ∀ a, off a + s.size a ≤ s.size a)
    (z : (Rect.unit off s.size inb).shape.Idx) : (Rect.unit off s.size inb).emb z = z := by
  funext a
  apply Fin.ext
  show off a + 1 * (z a).val = (z a).val
  have := inb a
  omega

/-- Reading a whole block of rows gives the block. -/
theorem rowsLoad_spec {e : EltTy} (m : Memref sig .tc .vmem S256x1024 e) (q : PosShare TreeShare) (X : Vec F S256x1024 e)
    (Q : Vec F S256x1024 e → sProp 𝕄) :
    (owns (c : Thread nD τ) m q X : sProp 𝕄)
      ⊢ iprop((owns (c : Thread nD τ) m q X -∗ Q X)
        -∗ wp frame (wpE (defs₀ (F := F)) 𝒱₀ c none) Set.univ (rowsLoad (F := F) m) Q) := by
  have h := load_spec c m (Rect.unit (s := S256x1024) ![0, 0] S256x1024.size inb_S256x1024_S256x1024_0_0)
    (View.loadsAt_vmem h_S256x1024) q X Q
  rwa [show (fun i => X ((Rect.unit (s := S256x1024) ![0, 0] S256x1024.size inb_S256x1024_S256x1024_0_0).emb i)) = X from
    funext fun i => congrArg X (emb_full _ i)] at h

/-- Reading a whole weight block gives the block. -/
theorem weightLoad_spec (m : Memref sig .tc .vmem S1024x1024 .bf16) (q : PosShare TreeShare) (X : Vec F S1024x1024 .bf16)
    (Q : Vec F S1024x1024 .bf16 → sProp 𝕄) :
    (owns (c : Thread nD τ) m q X : sProp 𝕄)
      ⊢ iprop((owns (c : Thread nD τ) m q X -∗ Q X)
        -∗ wp frame (wpE (defs₀ (F := F)) 𝒱₀ c none) Set.univ (weightLoad (F := F) m) Q) := by
  have h := load_spec c m (Rect.unit (s := S1024x1024) ![0, 0] S1024x1024.size inb_S1024x1024_S1024x1024_0_0)
    (View.loadsAt_vmem h_S1024x1024) q X Q
  rwa [show (fun i => X ((Rect.unit (s := S1024x1024) ![0, 0] S1024x1024.size inb_S1024x1024_S1024x1024_0_0).emb i)) = X from
    funext fun i => congrArg X (emb_full _ i)] at h

/-- Writing through the rectangle of a block's own sizes leaves the block at what was written. -/
theorem storeFull_spec {s : Shape} {e : EltTy} (m : Memref sig .tc .vmem s e) (off : Fin s.rank → ℕ) (inb : ∀ a, off a + s.size a ≤ s.size a)
    (w : Vec F s e) (hx : (m.access (Rect.unit off s.size inb)).Stores Finset.univ)
    (hm : (Finset.univ : Finset (Rect.unit off s.size inb).shape.Idx) = Finset.univ ∨ ∀ a, (Rect.unit off s.size inb).stride a = 1) (X : Vec F s e) (Q : PUnit → sProp 𝕄) :
    (owns (c : Thread nD τ) m fullShare X : sProp 𝕄)
      ⊢ iprop((owns (c : Thread nD τ) m fullShare w -∗ Q ⟨⟩)
        -∗ wp frame (wpE (defs₀ (F := F)) 𝒱₀ c none) Set.univ
          (Prog.lift (.store m (Rect.unit off s.size inb) w Finset.univ hx hm)) Q) := by
  refine store_spec c m (Rect.unit off s.size inb) w hx hm ?_ X w ?_ Q
  · intro i; exact ⟨i, emb_full inb i⟩
  · intro i; exact congrArg w (emb_full inb i)

/-- Writing the projected rows leaves the buffer at them. -/
theorem qStore_spec (X v : Vec F S256x1024 .bf16) (Q : PUnit → sProp 𝕄) :
    (owns (c : Thread nD τ) qM fullShare X : sProp 𝕄)
      ⊢ iprop((owns (c : Thread nD τ) qM fullShare v -∗ Q ⟨⟩)
        -∗ wp frame (wpE (defs₀ (F := F)) 𝒱₀ c none) Set.univ (qStore (F := F) v) Q) :=
  storeFull_spec c qM ![0, 0] inb_S256x1024_S256x1024_0_0 v _ _ X Q

/-- Writing the result block leaves it at what was written. -/
theorem outStore_spec (m : Memref sig .tc .vmem S256x1024 .f32) (X v : Vec F S256x1024 .f32) (Q : PUnit → sProp 𝕄) :
    (owns (c : Thread nD τ) m fullShare X : sProp 𝕄)
      ⊢ iprop((owns (c : Thread nD τ) m fullShare v -∗ Q ⟨⟩)
        -∗ wp frame (wpE (defs₀ (F := F)) 𝒱₀ c none) Set.univ (outStore (F := F) m v) Q) :=
  storeFull_spec c m ![0, 0] inb_S256x1024_S256x1024_0_0 v _ _ X Q

/-! ## The attention over one block of rows -/

/-- The sum over the heads before trip `n`: the attention of the query rows `q`, counted from the block at place `w`. -/
def headsV (w : BitVec 32) (q : Vec F S256x1024 .bf16) (K V : Vec F S8x2048x128 .bf16) (Wo : Vec F S1024x1024 .bf16) :
    ℕ → FVec F S256x1024 .f32
  | 0 => k0_pay7
  | n + 1 =>
    if h : n < k0_t1_loop.trips then
      headStep w (headsV w q K V Wo n)
        (fun i => q ((Rect.unit (s := S256x1024) (k0_off1 ⟨n, h⟩) S256x128.size (k0_off1_inb ⟨n, h⟩)).emb i))
        (fun i => K ((Rect.unit (s := S8x2048x128) (k0_off2 ⟨n, h⟩) S1x2048x128.size (k0_off2_inb ⟨n, h⟩)).emb i))
        (fun i => V ((Rect.unit (s := S8x2048x128) (k0_off2 ⟨n, h⟩) S1x2048x128.size (k0_off2_inb ⟨n, h⟩)).emb i))
        (fun i => Wo ((Rect.unit (s := S1024x1024) (k0_off3 ⟨n, h⟩) S128x1024.size (k0_off3_inb ⟨n, h⟩)).emb i))
    else headsV w q K V Wo n

/-- The attention over the query rows `q` with this device's heads, projected by its rows of the output matrix. -/
def attnV (w : BitVec 32) (q : Vec F S256x1024 .bf16) (K V : Vec F S8x2048x128 .bf16) (Wo : Vec F S1024x1024 .bf16) :
    FVec F S256x1024 .f32 :=
  headsV w q K V Wo k0_t1_loop.trips

section
variable (a1 : Memref sig .tc .vmem S1024x1024 .bf16) (a2 a3 : Memref sig .tc .vmem S8x2048x128 .bf16)
  (a4 : Memref sig .tc .vmem S1024x1024 .bf16)
  (wq : Vec F S1024x1024 .bf16) (K V : Vec F S8x2048x128 .bf16) (Wo : Vec F S1024x1024 .bf16)

/-- What the attention reads besides the query rows: this device's blocks of the weights, keys and values. -/
def wins : sProp 𝕄 :=
  iprop(owns (c : Thread nD τ) a1 fullShare wq ∗ owns (c : Thread nD τ) a2 fullShare K
    ∗ owns (c : Thread nD τ) a3 fullShare V ∗ owns (c : Thread nD τ) a4 fullShare Wo)

/-- The loop over heads gives the attention over the query rows held. -/
theorem heads_spec (w : BitVec 32) (q : Vec F S256x1024 .bf16) (Q : FVec F S256x1024 .f32 → sProp 𝕄) :
    iprop(wins c a1 a2 a3 a4 wq K V Wo ∗ owns (c : Thread nD τ) qM fullShare q)
      ⊢ iprop((wins c a1 a2 a3 a4 wq K V Wo ∗ owns (c : Thread nD τ) qM fullShare q -∗ Q (attnV w q K V Wo))
        -∗ wp frame (wpE (defs₀ (F := F)) 𝒱₀ c none) Set.univ (heads (F := F) a2 a3 a4 w) Q) := by
  iintro H Hk
  unfold heads Scf.Loop.for
  iapply (Scf.wp_for frame (wpE (defs₀ (F := F)) 𝒱₀ c none) Set.univ _ _ _ k0_t1_ok k0_pay7 (headBody a2 a3 a4 w)
    (fun n acc => iprop(⌜acc = headsV w q K V Wo n⌝ ∗ wins c a1 a2 a3 a4 wq K V Wo ∗ owns (c : Thread nD τ) qM fullShare q)) ?_)
  · intro k acc
    unfold headBody wins
    iintro ⟨%hacc, ⟨H1, H2, H3, H4⟩, Hq⟩
    rw [wp_bind]
    iapply (load_spec c qM _ _ fullShare q) $$ [Hq]
    · iexact Hq
    iintro Hq
    rw [wp_bind]
    iapply (load_spec c a2 _ _ fullShare K) $$ [H2]
    · iexact H2
    iintro H2
    rw [wp_bind]
    iapply (load_spec c a3 _ _ fullShare V) $$ [H3]
    · iexact H3
    iintro H3
    rw [wp_bind]
    iapply (load_spec c a4 _ _ fullShare Wo) $$ [H4]
    · iexact H4
    iintro H4
    rw [Prog.pure_eq_ret, wp_ret]
    imodintro
    isplitr
    · ipureintro
      rw [hacc, headsV, dif_pos k.isLt]
      rfl
    isplitl [H1 H2 H3 H4]
    · isplitl [H1]; · iexact H1
      isplitl [H2]; · iexact H2
      isplitl [H3]; · iexact H3
      iexact H4
    iexact Hq
  isplitl [H]
  · isplitr
    · ipureintro; rfl
    iexact H
  iintro %acc ⟨%hacc, H⟩
  rw [show acc = attnV w q K V Wo from hacc]
  iapply Hk
  iexact H

/-- The two ways the program projects a block of rows agree. -/
theorem k0_pay9_slotOf (x : Vec F S256x1024 .bf16) : k0_pay9 (slotOf x) wq = k0_pay2 x wq := by
  unfold k0_pay9 k0_pay2
  rw [show shapeCast S256x1024 (slotOf x) shapeCasts_S1x256x1024_S256x1024 = x from rowsOf_slotOf x,
    show shapeCast S256x1024 x shapeCasts_S256x1024_S256x1024 = x from funext fun i => congrArg x (Shape.reshapeEquiv_self _ i)]

/-- The attention over the rows of a slot. -/
theorem slotAttn_spec (t : ℕ) (qs : PosShare TreeShare) (X q : Vec F S256x1024 .bf16) (Q : FVec F S256x1024 .f32 → sProp 𝕄) :
    iprop(wins c a1 a2 a3 a4 wq K V Wo ∗ owns (c : Thread nD τ) qM fullShare q ∗ owns (c : Thread nD τ) (slotM xM (t + 1)) qs X)
      ⊢ iprop((wins c a1 a2 a3 a4 wq K V Wo ∗ owns (c : Thread nD τ) qM fullShare (k0_pay2 X wq)
            ∗ owns (c : Thread nD τ) (slotM xM (t + 1)) qs X -∗ Q (attnV (chunk c t) (k0_pay2 X wq) K V Wo))
        -∗ wp frame (wpE (defs₀ (F := F)) 𝒱₀ c none) Set.univ (slotAttn (F := F) a1 a2 a3 a4 c t) Q) := by
  iintro ⟨Hw, Hq, Hx⟩ Hk
  unfold slotAttn
  rw [wp_bind]
  iapply (slotLoad_spec c xM (t + 1) qs X) $$ [Hx]
  · iexact Hx
  iintro Hx
  rw [wp_bind]
  unfold wins
  icases Hw with ⟨H1, H2, H3, H4⟩
  iapply (weightLoad_spec c a1 fullShare wq) $$ [H1]
  · iexact H1
  iintro H1
  rw [wp_bind]
  iapply (rowsLoad_spec c qM fullShare q) $$ [Hq]
  · iexact Hq
  iintro Hq
  rw [wp_bind]
  iapply (qStore_spec c q _) $$ [Hq]
  · iexact Hq
  iintro Hq
  rw [k0_pay9_slotOf]
  iapply (heads_spec c a1 a2 a3 a4 wq K V Wo (chunk c t) (k0_pay2 X wq)) $$ [H1 H2 H3 H4 Hq]
  · unfold wins
    isplitl [H1 H2 H3 H4]
    · isplitl [H1]; · iexact H1
      isplitl [H2]; · iexact H2
      isplitl [H3]; · iexact H3
      iexact H4
    iexact Hq
  iintro ⟨Hw, Hq⟩
  iapply Hk
  isplitl [Hw]
  · unfold wins; iexact Hw
  isplitl [Hq]; · iexact Hq
  iexact Hx

end

end

end Cert.Proof

end
-- ==== Proof.Common.lean ====
/- The ring: the neighbours, the values that travel, the semaphore cells, what each cell is paid with, and in which
   order the waits stand. -/
module

public import proofs.«01_k».proof.Proof.Holds

@[expose] public section

noncomputable section

namespace Cert.Proof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

/-- The staging copies' factor. -/
abbrev EP : Emb (UR sig nD τ) (MT nD τ sig Unit (Elt F) ℕ UU ℕ) := embL
/-- The ring's factor. -/
abbrev ER : Emb (UR sig nD τ) (MT nD τ sig Unit (Elt F) ℕ UU ℕ) := embR

/-! ## The neighbours -/

/-- The right neighbour. -/
def nxt (c : Dev nD) : Dev nD := ⟨(c.val + 1) % 8, Nat.mod_lt _ (by decide)⟩
/-- The left neighbour. -/
def prv (c : Dev nD) : Dev nD := ⟨(c.val + 7) % 8, Nat.mod_lt _ (by decide)⟩

/-- Right of left is the device itself. -/
theorem nxt_prv (c : Dev nD) : nxt (prv c) = c := by
  apply Fin.ext; show ((c.val + 7) % 8 + 1) % 8 = c.val
  have : c.val < 8 := c.isLt
  omega
/-- Left of right is the device itself. -/
theorem prv_nxt (c : Dev nD) : prv (nxt c) = c := by
  apply Fin.ext; show ((c.val + 1) % 8 + 7) % 8 = c.val
  have : c.val < 8 := c.isLt
  omega
/-- One step around the ring. -/
def ring : Dev nD ≃ Dev nD := ⟨nxt, prv, prv_nxt, nxt_prv⟩

/-- The device the program copies to is the right neighbour. -/
theorem rightOf_eq : ∀ d : Dev nD, rightOf d = nxt d := by decide
/-- The device the program signals at entry is the left neighbour. -/
theorem leftOf_eq : ∀ d : Dev nD, (⟨k0_dev1 d, k0_dev1_lt d⟩ : Dev nD) = prv d := by decide

/-! ## What travels -/

/-- Each device's five blocks, as the kernel finds them. -/
structure Ins (F : FTy → Type) where
  x : Dev nD → Vec F S256x1024 .bf16
  wq : Dev nD → Vec F S1024x1024 .bf16
  k : Dev nD → Vec F S8x2048x128 .bf16
  v : Dev nD → Vec F S8x2048x128 .bf16
  wo : Dev nD → Vec F S1024x1024 .bf16

variable (I : Ins F)

/-- The rows in slot `t` of device `c`: those of the device `t` places to its left. -/
def xAt : ℕ → Dev nD → Vec F S256x1024 .bf16
  | 0, c => I.x c
  | t + 1, c => xAt t (prv c)

/-- Device `c`'s share of the attention over the rows of slot `t+1`. -/
def pcV (t : ℕ) (c : Dev nD) : FVec F S256x1024 .f32 :=
  attnV (chunk c t) (k0_pay2 (xAt I (t + 1) c) (I.wq c)) (I.k c) (I.v c) (I.wo c)

/-- Device `c`'s share of the attention over its own rows. -/
def ownV (c : Dev nD) : FVec F S256x1024 .f32 :=
  attnV (place c) (k0_pay2 (I.x c) (I.wq c)) (I.k c) (I.v c) (I.wo c)

/-- The partial sum device `c` sends on in step `t`. -/
def sumAt : ℕ → Dev nD → Vec F S256x1024 .bf16
  | 0, c => rowsOf (k0_pay15 (pcV I 0 c))
  | t + 1, c => rowsOf (k0_pay22 (pcV I (t + 1) c) (slotOf (sumAt t (prv c))))

/-- The result block of device `c`. -/
def outV (c : Dev nD) : FVec F S256x1024 .f32 := k0_pay66 (ownV I c) (slotOf (sumAt I 6 (prv c)))

/-! ## The cells -/

/-- The barrier semaphore. -/
abbrev barS : Sem sig := ⟨0, by decide⟩
/-- Semaphore `t` of the copies' kind `j`: 0 gathering sent, 1 gathering arrived, 2 sum sent, 3 sum arrived. -/
def dSem (j t : ℕ) : DmaSem sig := ⟨6 + 7 * (j % 4) + t % 7, by show _ < 34; omega⟩

/-- The number of the semaphore at step `t` of an array of seven. -/
theorem semA_val (b : ℕ) (h : b + S7.numel ≤ 34) (t : ℕ) :
    ((semA (SemArray.consecutive b S7 h : DmaSems sig S7) t : DmaSem sig) : ℕ) = b + t % 7 := by
  show b + ((S7.rowMajor _ : Fin _) : ℕ) = _
  rw [Shape.rowMajor_val_one, Rect.emb_apply]
  congr 1
  have h0 : ∀ x : Fin 1, t % 7 + 1 * x.val = t % 7 := by intro x; omega
  exact h0 _

/-- The first array holds the sends of rows. -/
theorem semA_0 (t : ℕ) : semA cc0_scratch3 t = dSem 0 t := Fin.ext (by rw [semA_val]; rfl)
/-- The second holds the arrivals of rows. -/
theorem semA_1 (t : ℕ) : semA cc0_scratch4 t = dSem 1 t := Fin.ext (by rw [semA_val]; rfl)
/-- The third holds the sends of partial sums. -/
theorem semA_2 (t : ℕ) : semA cc0_scratch5 t = dSem 2 t := Fin.ext (by rw [semA_val]; rfl)
/-- The fourth holds the arrivals of partial sums. -/
theorem semA_3 (t : ℕ) : semA cc0_scratch6 t = dSem 3 t := Fin.ext (by rw [semA_val]; rfl)

/-- Device `c`'s barrier cell. -/
abbrev barCell (c : Dev nD) : GSem nD τ sig := ((c : Thread nD τ), .reg barS)
/-- Device `c`'s cell of kind `j`, step `t`. -/
abbrev dC (c : Dev nD) (j t : ℕ) : GSem nD τ sig := ((c : Thread nD τ), .dma (dSem j t))

/-- The bytes of one slot, as the counters count them. -/
abbrev N : ℕ := (slotM xM 0).view.dmaCredit
/-- A slot has bytes. -/
theorem N_pos : 0 < N := by decide

/-! ## The schedule -/

/-- What device `c`'s cell of kind `j`, step `t` is paid with. -/
def dmaPay (c : Dev nD) (j t : ℕ) : sProp 𝕄 :=
  match j with
  | 0 => owns (c : Thread nD τ) (slotM xM t) fullShare.right (xAt I t c)
  | 1 => owns (c : Thread nD τ) (slotM xM (t + 1)) fullShare (xAt I (t + 1) c)
  | 2 => owns (c : Thread nD τ) (slotM rM (t + 7)) fullShare (sumAt I t c)
  | _ => owns (c : Thread nD τ) (slotM rM t) fullShare (sumAt I t (prv c))

/-- A slot of a device at contents not chosen. -/
def anySlot (c : Dev nD) (m : Memref sig .tc .vmem S8x256x1024 .bf16) (k : ℕ) : sProp 𝕄 :=
  iprop(∃ Y, owns (c : Thread nD τ) (slotM m k) fullShare Y)

/-- Both chains' destination slots of step `t` on device `c`, and that their arrival cells are open. -/
def room (c : Dev nD) (t : ℕ) : sProp 𝕄 :=
  iprop((anySlot (F := F) c xM (t + 1) ∗ reached ER (dC c 1 t) 0) ∗ (anySlot (F := F) c rM t ∗ reached ER (dC c 3 t) 0))

/-- What a barrier cell is paid with: the room on the right neighbour, who signals it. -/
def barPay (c : Dev nD) : sProp 𝕄 := bigSep (Finset.univ : Finset (Fin 7)) fun t => room (F := F) (nxt c) t.val

/-- A copy's payment may be kept in an invariant. -/
instance dmaPay_storable (c : Dev nD) (j t : ℕ) : BI.Storable (upEmb : UEmb _ 𝕄) (dmaPay I c j t) := by
  unfold dmaPay
  split <;> infer_instance
/-- So may a slot, -/
instance anySlot_storable (c : Dev nD) (m : Memref sig .tc .vmem S8x256x1024 .bf16) (k : ℕ) :
    BI.Storable (upEmb : UEmb _ 𝕄) (anySlot (F := F) c m k) := by
  unfold anySlot
  infer_instance
/-- the room of a step, -/
instance room_storable (c : Dev nD) (t : ℕ) : BI.Storable (upEmb : UEmb _ 𝕄) (room (F := F) c t) := by
  unfold room
  infer_instance
/-- and the barrier's payment. -/
instance barPay_storable (c : Dev nD) : BI.Storable (upEmb : UEmb _ 𝕄) (barPay (F := F) c) := by
  unfold barPay
  infer_instance

/-- A semaphore of the ring. -/
def talkSem : SemLoc sig → Bool
  | .reg _ => true
  | .dma s => 6 ≤ s.val

/-- What a semaphore of device `c` is paid with. -/
def payOf (c : Dev nD) : SemLoc sig → sProp 𝕄
  | .reg _ => barPay (F := F) c
  | .dma s => dmaPay I c ((s.val - 6) / 7) ((s.val - 6) % 7)

/-- How much. -/
def amountOf : SemLoc sig → ℕ
  | .reg _ => 1
  | .dma _ => N

/-- One duty on each cell of the ring. -/
def Rd : Rounds.Schedule (GSem nD τ sig) Unit 𝕄 where
  duties g r := if r = 0 ∧ g.1.2 = .tc ∧ talkSem g.2 = true then {()} else ∅
  unitless _ := False
  amount g _ _ := amountOf g.2
  payload g _ _ := payOf I g.1.1 g.2
  amount_pos g _ _ _ := by
    unfold amountOf
    split
    · exact Nat.one_pos
    · exact N_pos

/-- Every payment of the schedule may be kept in an invariant. -/
instance Rd_payload_storable (g : GSem nD τ sig) (r : ℕ) (d : Unit) : BI.Storable (upEmb : UEmb _ 𝕄) ((Rd I).payload g r d) := by
  show BI.Storable upEmb (payOf I g.1.1 g.2)
  unfold payOf
  split <;> infer_instance

/-- A barrier cell has one duty, -/
theorem duties_bar (c : Dev nD) : (Rd I).duties (barCell c) 0 = {()} := by
  have h : (0 : ℕ) = 0 ∧ (barCell c).1.2 = .tc ∧ talkSem (barCell c).2 = true := ⟨rfl, rfl, rfl⟩
  exact if_pos (t := ({()} : Finset Unit)) (e := ∅) h
/-- and a copy's cell has one, -/
theorem duties_dC (c : Dev nD) (j t : ℕ) : (Rd I).duties (dC c j t) 0 = {()} :=
  if_pos ⟨rfl, rfl, decide_eq_true (by show 6 ≤ 6 + 7 * (j % 4) + t % 7; omega)⟩
/-- and none has any in a later round. -/
theorem duties_later (g : GSem nD τ sig) (r : ℕ) (hr : 1 ≤ r) : (Rd I).duties g r = ∅ := if_neg fun h => by omega

/-- A barrier cell expects one unit. -/
theorem expect_bar (c : Dev nD) : (Rd I).expect (barCell c) 0 = 1 := by
  unfold Schedule.expect Schedule.amountOf; rw [duties_bar, Finset.sum_singleton]; rfl
/-- A copy's cell expects a slot's bytes. -/
theorem expect_dC (c : Dev nD) (j t : ℕ) : (Rd I).expect (dC c j t) 0 = N := by
  unfold Schedule.expect Schedule.amountOf; rw [duties_dC, Finset.sum_singleton]; rfl

/-- A copy's cell is paid with what the copy hands over. -/
theorem payload_dC (c : Dev nD) (j t : ℕ) (hj : j < 4) (ht : t < 7) (u : Unit) : (Rd I).payload (dC c j t) 0 u = dmaPay I c j t := by
  show dmaPay I c ((6 + 7 * (j % 4) + t % 7 - 6) / 7) ((6 + 7 * (j % 4) + t % 7 - 6) % 7) = _
  rw [show (6 + 7 * (j % 4) + t % 7 - 6) / 7 = j by omega, show (6 + 7 * (j % 4) + t % 7 - 6) % 7 = t by omega]

/-- All that a barrier cell is paid with. -/
theorem rest_bar (c : Dev nD) :
    bigSep ((Rd I).duties (barCell c) 0 \ ∅) (fun u => (Rd I).payload (barCell c) 0 u) = barPay (F := F) c := by
  rw [Finset.sdiff_empty, duties_bar, bigSep_singleton]; rfl
/-- All that a copy's cell is paid with. -/
theorem rest_dC (c : Dev nD) (j t : ℕ) (hj : j < 4) (ht : t < 7) :
    bigSep ((Rd I).duties (dC c j t) 0 \ ∅) (fun u => (Rd I).payload (dC c j t) 0 u) = dmaPay I c j t := by
  rw [Finset.sdiff_empty, duties_dC, bigSep_singleton, payload_dC I c j t hj ht]

/-! ## What is owed, and the order of the waits -/

/-- The arrivals still owed to the right neighbour, in the order they are paid, by kind and step. -/
def owe (c : Dev nD) : List (ℕ × ℕ) → CellTallies nD τ sig Unit
  | [] => 0
  | p :: l => owe c l + tallyAt (dC (nxt c) p.1 p.2) () N

/-- All of them. -/
abbrev allOwed : List (ℕ × ℕ) :=
  [(1, 0), (1, 1), (3, 0), (1, 2), (3, 1), (1, 3), (3, 2), (1, 4), (3, 3), (1, 5), (3, 4), (1, 6), (3, 5), (3, 6)]

/-- What a device owes at launch: the arrivals, and its left neighbour's barrier unit. -/
def O₀ (c : Dev nD) : CellTallies nD τ sig Unit := owe c allOwed + tallyAt (barCell (prv c)) () 1

/-- The labels of a cell: one on a cell of a device's core, none elsewhere. -/
def L (g : GSem nD τ sig) : Finset Unit := if g.1.2 = .tc then {()} else ∅

/-- Where a kind and step stand in the order of waits. -/
def lvOf (j t : ℕ) : ℕ := if j = 1 then 2 * t + 2 else if j = 3 then 2 * t + 3 else 0
/-- The barrier first, then the arrivals by step; the rest wait for nobody. -/
def lv (g : GSem nD τ sig) (_ : Unit) : ℕ :=
  match g.2 with
  | .reg _ => 1
  | .dma s => if 6 ≤ s.val then lvOf ((s.val - 6) / 7) ((s.val - 6) % 7) else 0

/-- No label away from the cores. -/
theorem L_of_ne (g : GSem nD τ sig) (h : g.1.2 ≠ .tc) : L g = ∅ := if_neg h
/-- One label on a core's cell. -/
theorem L_tc (c : Dev nD) (sm : SemLoc sig) : L ((c : Thread nD τ), sm) = {()} := if_pos rfl

/-- A copy's cell by kind and step in the order of waits. -/
theorem lv_dC (c : Dev nD) (j t : ℕ) (u : Unit) : lv (dC c j t) u = lvOf (j % 4) (t % 7) := by
  show (if 6 ≤ 6 + 7 * (j % 4) + t % 7 then lvOf ((6 + 7 * (j % 4) + t % 7 - 6) / 7) ((6 + 7 * (j % 4) + t % 7 - 6) % 7) else 0) = _
  rw [if_pos (by omega), show (6 + 7 * (j % 4) + t % 7 - 6) / 7 = j % 4 by omega, show (6 + 7 * (j % 4) + t % 7 - 6) % 7 = t % 7 by omega]

/-- A cell owed is one of the list's. -/
theorem owe_pos {c : Dev nD} {l : List (ℕ × ℕ)} {g : GSem nD τ sig} {u : Unit} (h : 0 < owe c l g u) :
    ∃ p ∈ l, g = dC (nxt c) p.1 p.2 := by
  induction l with
  | nil => exact absurd h (Nat.lt_irrefl 0)
  | cons p l ih =>
    rw [owe, Pi.add_apply, Finsupp.add_apply] at h
    rcases Nat.add_pos_iff_pos_or_pos.mp h with h | h
    · obtain ⟨q, hq, e⟩ := ih h
      exact ⟨q, List.mem_cons_of_mem _ hq, e⟩
    · rw [tallyAt_apply] at h
      split at h
      · next hg => exact ⟨p, List.mem_cons_self, hg.1⟩
      · exact absurd h (Nat.lt_irrefl 0)

/-- A device may wait on a cell that stands before every arrival it still owes. -/
theorem mayWait (c : Dev nD) (sm : SemLoc sig) (l : List (ℕ × ℕ)) (n : ℕ) (hs : lv ((c : Thread nD τ), sm) () ≤ n)
    (hl : ∀ p ∈ l, n < lvOf (p.1 % 4) (p.2 % 7)) :
    (levAts L lv : sProp 𝕄) ⊢ MayWait (c : Thread nD τ) sm () (owe c l) :=
  MayOwe.of_cut (L := L) (lev := lv) n (fun p hp => by rw [Finset.mem_singleton.mp hp, L_tc]; exact Finset.mem_singleton_self _)
    (fun g u hg => by
      obtain ⟨p, -, rfl⟩ := owe_pos hg
      rw [L_tc]; exact Finset.mem_singleton_self _)
    (fun p hp => by rw [Finset.mem_singleton.mp hp]; exact hs)
    (fun g u hg => by
      obtain ⟨p, hp, rfl⟩ := owe_pos hg
      rw [lv_dC]; exact hl p hp)

/-! ## The protocol's ghost state -/

/-- The barrier cells. -/
def barEmb : Dev nD ↪ GSem nD τ sig := ⟨fun c => barCell c, fun _ _ h => congrArg (fun g : GSem nD τ sig => g.1.1) h⟩

/-- The copies' semaphores, by step and kind. -/
def osem (p : Fin 7 × Fin 4) : SemLoc sig := .dma (dSem p.2.val p.1.val)

/-- Different steps or kinds have different semaphores. -/
theorem osem_inj : Function.Injective osem := by
  rintro ⟨t, j⟩ ⟨t', j'⟩ h
  have h' : 6 + 7 * (j.val % 4) + t.val % 7 = 6 + 7 * (j'.val % 4) + t'.val % 7 :=
    congrArg (fun s : SemLoc sig => match s with | .reg _ => 0 | .dma s => s.val) h
  have := t.isLt
  have := t'.isLt
  have := j.isLt
  have := j'.isLt
  exact Prod.ext (Fin.ext (by show t.val = t'.val; omega)) (Fin.ext (by show j.val = j'.val; omega))

/-- The copies' cells. -/
def scEmb : Dev nD × (Fin 7 × Fin 4) ↪ GSem nD τ sig :=
  ⟨fun ck => ((ck.1 : Thread nD τ), osem ck.2), fun _ _ h =>
    Prod.ext (congrArg (fun g : GSem nD τ sig => g.1.1) h) (osem_inj (congrArg Prod.snd h))⟩

/-- All barrier cells. -/
abbrev barCells : Finset (GSem nD τ sig) := Finset.univ.map barEmb
/-- All copies' cells. -/
abbrev scCells : Finset (GSem nD τ sig) := Finset.univ.map scEmb

/-- A barrier cell is one of the ring's. -/
theorem bar_mem (c : Dev nD) : barCell c ∈ (barCells ∪ scCells : Finset (GSem nD τ sig)) :=
  Finset.mem_union_left _ (Finset.mem_map_of_mem barEmb (Finset.mem_univ c))

/-- Every copy's semaphore is one of the list. -/
theorem osem_dSem (j t : ℕ) : ∃ p : Fin 7 × Fin 4, osem p = .dma (dSem j t) :=
  ⟨(⟨t % 7, Nat.mod_lt _ (by decide)⟩, ⟨j % 4, Nat.mod_lt _ (by decide)⟩), congrArg SemLoc.dma (Fin.ext (by
    show 6 + 7 * (j % 4 % 4) + t % 7 % 7 = 6 + 7 * (j % 4) + t % 7
    omega))⟩

/-- A copy's cell is one of the ring's. -/
theorem dC_mem (c : Dev nD) (j t : ℕ) : dC c j t ∈ (barCells ∪ scCells : Finset (GSem nD τ sig)) := by
  obtain ⟨p, hp⟩ := osem_dSem j t
  refine Finset.mem_union_right _ (Finset.mem_map.mpr ⟨(c, p), Finset.mem_univ _, ?_⟩)
  show ((c : Thread nD τ), osem p) = _
  rw [hp]

/-- What every device may consult: the invariants of all the ring's cells, that the barrier cells are open, and the order. -/
def env (K : GSem nD τ sig → ℕ) : sProp 𝕄 :=
  iprop((bigSep (barCells ∪ scCells) fun g => cellInv ER (Rd I) (K g) g) ∗ (bigSep barCells fun g => reached ER g 0) ∗ levAts L lv)

/-- What every device may consult may be consulted again. -/
instance env_persistent (K : GSem nD τ sig → ℕ) : BI.Persistent (env I K) := by unfold env; infer_instance

/-- It holds a barrier cell's invariant, -/
theorem env_bar (K : GSem nD τ sig → ℕ) (c : Dev nD) : env I K ⊢ cellInv ER (Rd I) (K (barCell c)) (barCell c) := by
  unfold env
  iintro ⟨#H, -, -⟩
  iapply (show (bigSep (barCells ∪ scCells) fun g => cellInv ER (Rd I) (K g) g) ⊢ cellInv ER (Rd I) (K (barCell c)) (barCell c) from
    bigSep_elim (bar_mem c)) $$ H
/-- a copy's cell's invariant, -/
theorem env_dC (K : GSem nD τ sig → ℕ) (c : Dev nD) (j t : ℕ) : env I K ⊢ cellInv ER (Rd I) (K (dC c j t)) (dC c j t) := by
  unfold env
  iintro ⟨#H, -, -⟩
  iapply (show (bigSep (barCells ∪ scCells) fun g => cellInv ER (Rd I) (K g) g) ⊢ cellInv ER (Rd I) (K (dC c j t)) (dC c j t) from
    bigSep_elim (dC_mem c j t)) $$ H
/-- that the barrier cells are open, -/
theorem env_reached (K : GSem nD τ sig → ℕ) (c : Dev nD) : env I K ⊢ reached ER (barCell c) 0 := by
  unfold env
  iintro ⟨-, #H, -⟩
  iapply (show (bigSep barCells fun g => (reached ER g 0 : sProp 𝕄)) ⊢ reached ER (barCell c) 0 from
    bigSep_elim (Finset.mem_map_of_mem barEmb (Finset.mem_univ c))) $$ H
/-- and the order of waits. -/
theorem env_lev (K : GSem nD τ sig → ℕ) : env I K ⊢ levAts L lv := by
  unfold env
  iintro ⟨-, -, #H⟩
  iexact H

end Cert.Proof

end
-- ==== Proof.Body.lean ====
/- The run of the body on one device: each start, wait and step of the two chains, and then the whole. -/
module

public import proofs.«01_k».proof.Proof.Common

@[expose] public section

noncomputable section

namespace Cert.Proof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

variable (I : Ins F) (K : GSem nD τ sig → ℕ) (c : Dev nD)

/-- Device `c` owes the listed arrivals. -/
def due (l : List (ℕ × ℕ)) : sProp 𝕄 := iprop(∃ W, owes (c : Thread nD τ) (owe c l) W)

/-- The tokens a device starts one copy of kind `j` (0 gathering, 2 sum) with. -/
def tok (j t : ℕ) : sProp 𝕄 :=
  iprop(dutyTok ER (dC c j t) 0 () ∗ reached ER (dC c j t) 0 ∗ dutyTok ER (dC (nxt c) (j + 1) t) 0 ())

/-- A copy started: the credit for its leaving and the credit for the left neighbour's arriving. -/
def ch1 (j t : ℕ) : sProp 𝕄 :=
  iprop(atPos ER (dC c j t) 0 ∅ 0 ∗ atPos ER (dC c (j + 1) t) 0 ∅ 0 ∗ cred (tallyAt (dC c j t) () N) ∗ cred (tallyAt (dC c (j + 1) t) () N))

/-- A copy not started yet, its destination in hand. -/
def ch0 (j t : ℕ) (dst : Memref sig .tc .vmem S256x1024 .bf16) : sProp 𝕄 :=
  iprop(atPos ER (dC c j t) 0 ∅ 0 ∗ atPos ER (dC c (j + 1) t) 0 ∅ 0 ∗ cred (tallyAt (dC c (j + 1) t) () N) ∗ tok (F := F) c j t
    ∗ (∃ Y, owns (nxt c : Thread nD τ) dst fullShare Y) ∗ reached ER (dC (nxt c) (j + 1) t) 0)

/-- A copy whose counterpart from the left has arrived. -/
def ch2 (j t : ℕ) : sProp 𝕄 :=
  iprop(atPos ER (dC c j t) 0 ∅ 0 ∗ cred (tallyAt (dC c j t) () N) ∗ atPos ER (dC c (j + 1) t) 1 ∅ 0)

/-- A copy that has arrived and left. -/
def ch3 (j t : ℕ) : sProp 𝕄 :=
  iprop(atPos ER (dC c j t) 1 ∅ 0 ∗ atPos ER (dC c (j + 1) t) 1 ∅ 0)

omit [FloatOps F] [Named F] in
/-- A view's elements at contents that read as `X` are the view held at `X`. -/
theorem owns_of {s : Shape} {e : EltTy} (d : Dev nD) (m : Memref sig .tc .vmem s e) (q : PosShare TreeShare) {X : Vec F s e}
    (f : Buf (Elt F) (m.view.loc (d : Thread nD τ))) (hf : m.view.read (Elt F) f = X) :
    (m.view.loc (d : Thread nD τ) ↦[m.view.set]{q} f : sProp 𝕄) ⊢ owns (d : Thread nD τ) m q X := by
  unfold owns
  iintro H
  iexists f
  isplitr
  · ipureintro; exact hf
  iexact H

/-- Starting a copy: the source held at `X` and the destination go to the two cells it pays. -/
theorem start_spec (src dst : Memref sig .tc .vmem S256x1024 .bf16) (j t : ℕ) (hj : j + 1 < 4) (ht : t < 7)
    (s s' : DmaSem sig) (hs : s = dSem j t) (hs' : s' = dSem (j + 1) t) (d' : Dev nD) (hd : d' = nxt c)
    (hN : dst.view.dmaCredit = N) (q : PosShare TreeShare) (X : Vec F S256x1024 .bf16)
    (hp : (owns (c : Thread nD τ) src q X : sProp 𝕄) ⊢ dmaPay I c j t)
    (hp' : (owns (nxt c : Thread nD τ) dst fullShare X : sProp 𝕄) ⊢ dmaPay I (nxt c) (j + 1) t)
    (h₁ h₂ h₃) (l : List (ℕ × ℕ)) (Q : PUnit → sProp 𝕄) :
    iprop(env I K ∗ owns (c : Thread nD τ) src q X ∗ ch0 (F := F) c j t dst ∗ due (F := F) c ((j + 1, t) :: l))
      ⊢ iprop((ch1 (F := F) c j t ∗ due (F := F) c l -∗ Q ⟨⟩)
        -∗ wp frame (wpE (defs₀ (F := F)) 𝒱₀ c none) Set.univ
          (Prog.lift (.enqueueDma src (.remote (Dev.tc d') dst (.dma s)) (.dma s') h₁ h₂ h₃)) Q) := by
  subst hs hs' hd
  unfold ch0 due tok owns
  iintro ⟨#He, ⟨%f, %hf, Hs⟩, ⟨Ha, Ha', Hc, ⟨Ht, #Hr, Ht'⟩, ⟨%Y, %g, %hg, Hd⟩, #Hr'⟩, ⟨%W, HO⟩⟩ Hk
  ihave #Hi := (env_dC I K c j t) $$ He
  ihave #Hi' := (env_dC I K (nxt c) (j + 1) t) $$ He
  iapply (Rounds.wp_send_pointsTo 𝒱₀ ER (Rd I) (c : Thread nD τ) none (c' := (nxt c : Thread nD τ)) (src := src) (dst := dst)
      (sS := .dma (dSem j t)) (sem := .dma (dSem (j + 1) t)) (q := q) (fs := f) (κ₁ := K (dC c j t)) (κ₂ := K (dC (nxt c) (j + 1) t))
      (r₁ := 0) (r₂ := 0) (d₁ := ()) (d₂ := ()) (fd := g)
      (by rw [duties_dC]; exact Finset.mem_singleton_self _) (by rw [duties_dC]; exact Finset.mem_singleton_self _)
      () () N hN rfl rfl (owe c l) rfl (W := W)
      (by
        rw [payload_dC I c j t (by omega) ht]
        exact BI.Entails.trans (owns_of _ _ _ f hf) hp)
      (by
        rw [payload_dC I (nxt c) (j + 1) t hj ht]
        exact BI.Entails.trans (owns_of _ _ _ _ ((View.read_write_univ (v := dst.view) (f := g) (src.view.read (Elt F) f)).trans hf)) hp')) $$ [Hs Hd HO Ht Ht']
  · isplitr; · iexact Hi
    isplitr; · iexact Hi'
    isplitl [Hs]; · iexact Hs
    isplitl [Hd]; · iexact Hd
    isplitl [HO]; · iexact HO
    isplitl [Ht]; · iexact Ht
    isplitr; · iexact Hr
    isplitl [Ht']; · iexact Ht'
    iexact Hr'
  iintro ⟨HcS, HO⟩
  rw [wp_ret]
  imodintro
  iapply Hk
  isplitl [Ha Ha' Hc HcS]
  · unfold ch1
    isplitl [Ha]; · iexact Ha
    isplitl [Ha']; · iexact Ha'
    isplitl [HcS]; · iexact HcS
    iexact Hc
  iexists W
  iexact HO

/-- Waiting for a copy of kind `j`: what the cell was paid with comes back. -/
theorem wait_spec (m m' : Memref sig .tc .vmem S256x1024 .bf16) (j t : ℕ) (hj : j < 4) (ht : t < 7)
    (s : DmaSem sig) (hs : s = dSem j t) (hN : m'.view.dmaCredit = N) (h₁ h₂) (l : List (ℕ × ℕ))
    (hl : ∀ p ∈ l, lvOf j t < lvOf (p.1 % 4) (p.2 % 7)) (Q : PUnit → sProp 𝕄) :
    iprop(env I K ∗ atPos ER (dC c j t) 0 ∅ 0 ∗ cred (tallyAt (dC c j t) () N) ∗ due (F := F) c l)
      ⊢ iprop((atPos ER (dC c j t) 1 ∅ 0 ∗ dmaPay I c j t ∗ due (F := F) c l -∗ Q ⟨⟩)
        -∗ wp frame (wpE (defs₀ (F := F)) 𝒱₀ c none) Set.univ (Prog.lift (.waitDma2 s m m' h₁ h₂)) Q) := by
  subst hs
  unfold due
  iintro ⟨#He, Ha, Hc, ⟨%W, HO⟩⟩ Hk
  ihave #Hi := (env_dC I K c j t) $$ He
  ihave #Hlev := (env_lev I K) $$ He
  iapply (Rounds.wp_wait_rest_token 𝒱₀ ER (Rd I) (c : Thread nD τ) none (κ := K (dC c j t))
      (wpE_waitDma2_eq 𝒱₀ (c : Thread nD τ) none Set.univ) (Set.mem_univ _) () (O := owe c l) (W := W) (R := 0) (m := 0) (T := ∅)
      ((Nat.zero_add _).trans (hN.trans (expect_dC I c j t).symm))) $$ [Hc HO Ha]
  · isplitr; · iexact Hi
    isplitl [Hc]
    · rw [hN]; iexact Hc
    isplitl [HO]; · iexact HO
    isplitr
    · iapply (mayWait (F := F) c (.dma (dSem j t)) l (lvOf j t) (by rw [lv_dC, Nat.mod_eq_of_lt hj, Nat.mod_eq_of_lt ht]) hl)
      iexact Hlev
    iexact Ha
  iintro ⟨HO, Ha, -, Hpay⟩
  ihave Hp := (Entails.of_eq (rest_dC I c j t hj ht)) $$ Hpay
  rw [wp_ret]
  imodintro
  iapply Hk
  isplitl [Ha]; · iexact Ha
  isplitl [Hp]; · iexact Hp
  iexists _
  iexact HO

/-! ## Halves of a slot -/

omit [FloatOps F] [Named F] in
/-- A slot held whole is held in two halves, both reading the same. -/
theorem halve (m : Memref sig .tc .vmem S256x1024 .bf16) (X : Vec F S256x1024 .bf16) :
    (owns (c : Thread nD τ) m fullShare X : sProp 𝕄)
      ⊢ iprop(owns (c : Thread nD τ) m fullShare.left X ∗ owns (c : Thread nD τ) m fullShare.right X) := by
  unfold owns
  iintro ⟨%f, %hf, H⟩
  ihave H := (pointsTo_share (PosShare.mem_left_op_right fullShare)).1 $$ H
  icases H with ⟨H, H'⟩
  isplitl [H]
  · iexists f
    isplitr
    · ipureintro; exact hf
    iexact H
  iexists f
  isplitr
  · ipureintro; exact hf
  iexact H'

omit [FloatOps F] [Named F] in
/-- Two halves of a slot, at contents of their own, are the slot at some contents. -/
theorem unhalve (m : Memref sig .tc .vmem S256x1024 .bf16) (X Y : Vec F S256x1024 .bf16) :
    iprop(owns (c : Thread nD τ) m fullShare.left X ∗ owns (c : Thread nD τ) m fullShare.right Y)
      ⊢ (iprop(∃ Z, owns (c : Thread nD τ) m fullShare Z) : sProp 𝕄) := by
  unfold owns
  iintro ⟨⟨%f, -, H⟩, ⟨%g, -, H'⟩⟩
  icombine H H' as H2
  ihave %hag := BI.Region.is_agree $$ H2
  icases H2 with ⟨H, H'⟩
  ihave H'' := (Entails.of_eq (pointsTo_congr (g := f) fun i hi => ((hag i (Finset.mem_inter.mpr ⟨hi, hi⟩)).1).symm)) $$ H'
  iexists (m.view.read (Elt F) f)
  iexists f
  isplitr
  · ipureintro; rfl
  iapply (pointsTo_share (PosShare.mem_left_op_right fullShare)).2
  isplitl [H]; · iexact H
  iexact H''

/-! ## The two chains, step by step -/

/-- A send of rows gives back the half share of the slot that went with it. -/
theorem dmaPay_0 (t : ℕ) : dmaPay I c 0 t = owns (c : Thread nD τ) (slotM xM t) fullShare.right (xAt I t c) := rfl
/-- An arrival of rows hands over the next slot, with the rows from the left. -/
theorem dmaPay_1 (t : ℕ) : dmaPay I c 1 t = owns (c : Thread nD τ) (slotM xM (t + 1)) fullShare (xAt I (t + 1) c) := rfl
/-- A send of a partial sum gives back the slot that held it. -/
theorem dmaPay_2 (t : ℕ) : dmaPay I c 2 t = owns (c : Thread nD τ) (slotM rM (t + 7)) fullShare (sumAt I t c) := rfl
/-- An arrival of a partial sum hands over the slot, with the left neighbour's sum. -/
theorem dmaPay_3 (t : ℕ) : dmaPay I c 3 t = owns (c : Thread nD τ) (slotM rM t) fullShare (sumAt I t (prv c)) := rfl

/-- Starting a step of the gathering chain. -/
theorem agStart_spec (t : ℕ) (ht : t < 7) (l : List (ℕ × ℕ)) (Q : PUnit → sProp 𝕄) :
    iprop(env I K ∗ owns (c : Thread nD τ) (slotM xM t) fullShare (xAt I t c) ∗ ch0 (F := F) c 0 t (slotM xM (t + 1))
        ∗ due (F := F) c ((1, t) :: l))
      ⊢ iprop((owns (c : Thread nD τ) (slotM xM t) fullShare.left (xAt I t c) ∗ ch1 (F := F) c 0 t ∗ due (F := F) c l -∗ Q ⟨⟩)
        -∗ wp frame (wpE (defs₀ (F := F)) 𝒱₀ c none) Set.univ (agStart (F := F) c t) Q) := by
  iintro ⟨#He, Hs, Hc, HO⟩ Hk
  ihave Hs := (halve c (slotM xM t) (xAt I t c)) $$ Hs
  icases Hs with ⟨Hs, Hs'⟩
  iapply (start_spec I K c (slotM xM t) (slotM xM (t + 1)) 0 t (by decide) ht _ _ (semA_0 t) (semA_1 t) _ (rightOf_eq c) rfl
    fullShare.right (xAt I t c) (BI.Entails.refl _)
    (by
      show _ ⊢ owns (nxt c : Thread nD τ) (slotM xM (t + 1)) fullShare (xAt I t (prv (nxt c)))
      rw [prv_nxt]) _ _ _ l) $$ [Hs' Hc HO]
  · isplitr; · iexact He
    isplitl [Hs']; · iexact Hs'
    isplitl [Hc]; · iexact Hc
    iexact HO
  iintro ⟨Hc, HO⟩
  iapply Hk
  isplitl [Hs]; · iexact Hs
  isplitl [Hc]; · iexact Hc
  iexact HO

/-- Starting a step of the summing chain. -/
theorem rsStart_spec (t : ℕ) (ht : t < 7) (l : List (ℕ × ℕ)) (Q : PUnit → sProp 𝕄) :
    iprop(env I K ∗ owns (c : Thread nD τ) (slotM rM (t + 7)) fullShare (sumAt I t c) ∗ ch0 (F := F) c 2 t (slotM rM t)
        ∗ due (F := F) c ((3, t) :: l))
      ⊢ iprop((ch1 (F := F) c 2 t ∗ due (F := F) c l -∗ Q ⟨⟩)
        -∗ wp frame (wpE (defs₀ (F := F)) 𝒱₀ c none) Set.univ (rsStart (F := F) c t) Q) :=
  start_spec I K c (slotM rM (t + 7)) (slotM rM t) 2 t (by decide) ht _ _ (semA_2 t) (semA_3 t) _ (rightOf_eq c) rfl
    fullShare (sumAt I t c) (BI.Entails.refl _)
    (by
      show _ ⊢ owns (nxt c : Thread nD τ) (slotM rM t) fullShare (sumAt I t (prv (nxt c)))
      rw [prv_nxt]) _ _ _ l Q

/-- Waiting for a step of the gathering chain: the rows of the next slot have arrived. -/
theorem agWait_spec (t : ℕ) (ht : t < 7) (l : List (ℕ × ℕ)) (hl : ∀ p ∈ l, lvOf 1 t < lvOf (p.1 % 4) (p.2 % 7)) (Q : PUnit → sProp 𝕄) :
    iprop(env I K ∗ ch1 (F := F) c 0 t ∗ due (F := F) c l)
      ⊢ iprop((ch2 (F := F) c 0 t ∗ owns (c : Thread nD τ) (slotM xM (t + 1)) fullShare (xAt I (t + 1) c) ∗ due (F := F) c l -∗ Q ⟨⟩)
        -∗ wp frame (wpE (defs₀ (F := F)) 𝒱₀ c none) Set.univ (agWait (F := F) t) Q) := by
  unfold ch1
  iintro ⟨#He, ⟨Ha, Ha', Hc, Hc'⟩, HO⟩ Hk
  iapply (wait_spec I K c (slotM xM t) (slotM xM (t + 1)) 1 t (by decide) ht _ (semA_1 t) rfl _ _ l hl) $$ [Ha' Hc' HO]
  · isplitr; · iexact He
    isplitl [Ha']; · iexact Ha'
    isplitl [Hc']; · iexact Hc'
    iexact HO
  iintro ⟨Ha', Hp, HO⟩
  iapply Hk
  isplitl [Ha Hc Ha']
  · unfold ch2
    isplitl [Ha]; · iexact Ha
    isplitl [Hc]; · iexact Hc
    iexact Ha'
  isplitl [Hp]; · iapply (Entails.of_eq (dmaPay_1 I c t)); iexact Hp
  iexact HO

/-- Waiting for a step of the summing chain: the partial sum has arrived. -/
theorem rsWait_spec (t : ℕ) (ht : t < 7) (l : List (ℕ × ℕ)) (hl : ∀ p ∈ l, lvOf 3 t < lvOf (p.1 % 4) (p.2 % 7)) (Q : PUnit → sProp 𝕄) :
    iprop(env I K ∗ ch1 (F := F) c 2 t ∗ due (F := F) c l)
      ⊢ iprop((ch2 (F := F) c 2 t ∗ owns (c : Thread nD τ) (slotM rM t) fullShare (sumAt I t (prv c)) ∗ due (F := F) c l -∗ Q ⟨⟩)
        -∗ wp frame (wpE (defs₀ (F := F)) 𝒱₀ c none) Set.univ (rsWait (F := F) t) Q) := by
  unfold ch1
  iintro ⟨#He, ⟨Ha, Ha', Hc, Hc'⟩, HO⟩ Hk
  iapply (wait_spec I K c (slotM rM (t + 7)) (slotM rM t) 3 t (by decide) ht _ (semA_3 t) rfl _ _ l hl) $$ [Ha' Hc' HO]
  · isplitr; · iexact He
    isplitl [Ha']; · iexact Ha'
    isplitl [Hc']; · iexact Hc'
    iexact HO
  iintro ⟨Ha', Hp, HO⟩
  iapply Hk
  isplitl [Ha Hc Ha']
  · unfold ch2
    isplitl [Ha]; · iexact Ha
    isplitl [Hc]; · iexact Hc
    iexact Ha'
  isplitl [Hp]; · iapply (Entails.of_eq (dmaPay_3 I c t)); iexact Hp
  iexact HO

/-- Waiting until a step of both chains has left, with nothing owed: both sources come back. -/
theorem sent_spec (t : ℕ) (ht : t < 7) (Q : PUnit → sProp 𝕄) :
    iprop(env I K ∗ ch2 (F := F) c 0 t ∗ ch2 (F := F) c 2 t ∗ owns (c : Thread nD τ) (slotM xM t) fullShare.left (xAt I t c) ∗ due (F := F) c [])
      ⊢ iprop(((ch3 (F := F) c 0 t ∗ ch3 (F := F) c 2 t) ∗ (anySlot (F := F) c xM t ∗ anySlot (F := F) c rM (t + 7)) ∗ due (F := F) c [] -∗ Q ⟨⟩)
        -∗ wp frame (wpE (defs₀ (F := F)) 𝒱₀ c none) Set.univ (sent (F := F) t) Q) := by
  unfold ch2 sent
  iintro ⟨#He, ⟨Ha, Hc, Hb⟩, ⟨Ha', Hc', Hb'⟩, Hs, HO⟩ Hk
  rw [wp_bind]
  iapply (wait_spec I K c (slotM xM (t + 1)) (slotM xM t) 0 t (by decide) ht _ (semA_0 t) rfl _ _ [] (fun p hp => absurd hp List.not_mem_nil)) $$ [Ha Hc HO]
  · isplitr; · iexact He
    isplitl [Ha]; · iexact Ha
    isplitl [Hc]; · iexact Hc
    iexact HO
  iintro ⟨Ha, Hp, HO⟩
  iapply (wait_spec I K c (slotM rM t) (slotM rM (t + 7)) 2 t (by decide) ht _ (semA_2 t) rfl _ _ [] (fun p hp => absurd hp List.not_mem_nil)) $$ [Ha' Hc' HO]
  · isplitr; · iexact He
    isplitl [Ha']; · iexact Ha'
    isplitl [Hc']; · iexact Hc'
    iexact HO
  iintro ⟨Ha', Hp', HO⟩
  iapply Hk
  isplitl [Ha Hb Ha' Hb']
  · unfold ch3
    isplitl [Ha Hb]
    · isplitl [Ha]; · iexact Ha
      iexact Hb
    isplitl [Ha']; · iexact Ha'
    iexact Hb'
  isplitl [Hs Hp Hp']
  · unfold anySlot
    isplitl [Hs Hp]
    · iapply (unhalve c (slotM xM t) (xAt I t c) (xAt I t c))
      isplitl [Hs]; · iexact Hs
      iapply (Entails.of_eq (dmaPay_0 I c t)); iexact Hp
    iexists (sumAt I t c)
    iapply (Entails.of_eq (dmaPay_2 I c t)); iexact Hp'
  iexact HO

/-! ## The entry -/

/-- The entry handshake: the left neighbour is told that this device's slots may be written, and the right neighbour's
    word is awaited. -/
theorem enter_spec (l : List (ℕ × ℕ)) (hl : ∀ p ∈ l, 1 < lvOf (p.1 % 4) (p.2 % 7)) (d' : Dev nD) (hd : d' = prv c) (Q : PUnit → sProp 𝕄)
    (k : Prog (TpuEff nD τ sig (Elt F) Λ₀ .tc) PUnit) :
    iprop(env I K ∗ atPos ER (barCell c) 0 ∅ 0 ∗ cred (tallyAt (barCell c) () 1) ∗ dutyTok ER (barCell (prv c)) 0 ()
        ∗ (bigSep (Finset.univ : Finset (Fin 7)) fun t => room (F := F) c t.val)
        ∗ ∃ W, owes (c : Thread nD τ) (owe c l + tallyAt (barCell (prv c)) () 1) W)
      ⊢ iprop((atPos ER (barCell c) 1 ∅ 0 ∗ (bigSep (Finset.univ : Finset (Fin 7)) fun t => room (F := F) (nxt c) t.val) ∗ due (F := F) c l
          -∗ wp frame (wpE (defs₀ (F := F)) 𝒱₀ c none) Set.univ k Q)
        -∗ wp frame (wpE (defs₀ (F := F)) 𝒱₀ c none) Set.univ
          (semSignalWord d' (SemArray.scalar (sig.barrier 0 rfl) : Sems sig S_).sem 1#32 >>= fun _ =>
            semWaitWord (SemArray.scalar (sig.barrier 0 rfl) : Sems sig S_).sem 1#32 >>= fun _ => k) Q) := by
  subst hd
  show _ ⊢ iprop(_ -∗ wp frame (wpE (defs₀ (F := F)) 𝒱₀ c none) Set.univ
          ((semSignalWord (prv c) (SemArray.scalar (sig.barrier 0 rfl) : Sems sig S_).sem 1#32).bind fun _ =>
            (semWaitWord (SemArray.scalar (sig.barrier 0 rfl) : Sems sig S_).sem 1#32).bind fun _ => k) Q)
  iintro ⟨#He, Ha, Hc, Ht, Hroom, ⟨%W, HO⟩⟩ Hk
  ihave #Hi := (env_bar I K c) $$ He
  ihave #Hi' := (env_bar I K (prv c)) $$ He
  ihave #Hr := (env_reached I K (prv c)) $$ He
  ihave #Hlev := (env_lev I K) $$ He
  unfold semSignalWord semWaitWord
  simp only [Prog.bind_op, Prog.bind_ret]
  iapply (Rounds.wp_signal 𝒱₀ ER (Rd I) (c : Thread nD τ) none (dst := (prv c : Thread nD τ)) (sem := barS) (r := 0) (d := ()) (κ := K (barCell (prv c)))
      (by rw [duties_bar]; exact Finset.mem_singleton_self _) rfl () (owe c l) rfl) $$ [HO Ht Hroom]
  · isplitr; · iexact Hi'
    isplitl [HO]; · iexact HO
    isplitl [Ht]; · iexact Ht
    isplitl [Hroom]
    · iapply (Entails.of_eq (show (bigSep (Finset.univ : Finset (Fin 7)) fun t => room (F := F) c t.val) = (Rd I).payload (barCell (prv c)) 0 () from by
        show _ = bigSep (Finset.univ : Finset (Fin 7)) fun t => room (F := F) (nxt (prv c)) t.val
        rw [nxt_prv]))
      iexact Hroom
    iexact Hr
  iintro HO
  iapply (Rounds.wp_wait_rest_token 𝒱₀ ER (Rd I) (c : Thread nD τ) none (κ := K (barCell c))
      (wpE_semWait_eq 𝒱₀ (c : Thread nD τ) none Set.univ) (Set.mem_univ _) () (O := owe c l) (W := W) (R := 0) (m := 0) (T := ∅)
      ((Nat.zero_add 1).trans (expect_bar I c).symm)) $$ [Hc HO Ha]
  · isplitr; · iexact Hi
    isplitl [Hc]; · iexact Hc
    isplitl [HO]; · iexact HO
    isplitr
    · iapply (mayWait (F := F) c (.reg barS) l 1 (Nat.le_refl 1) hl)
      iexact Hlev
    iexact Ha
  iintro ⟨HO, Ha, -, Hpay⟩
  ihave Hp := (Entails.of_eq (rest_bar I c)) $$ Hpay
  iapply Hk
  isplitl [Ha]; · iexact Ha
  isplitl [Hp]; · unfold barPay; iexact Hp
  unfold due
  iexists _
  iexact HO

end Cert.Proof

end
-- ==== Proof.Run.lean ====
/- The run of the whole body on one device. -/
module

public import proofs.«01_k».proof.Proof.Body

@[expose] public section

noncomputable section

namespace Cert.Proof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

/-- Slots are counted modulo eight. -/
theorem slotM_congr (m : Memref sig .tc .vmem S8x256x1024 .bf16) {k k' : ℕ} (h : k % 8 = k' % 8) : slotM m k = slotM m k' := by
  have aux : ∀ (n n' : ℕ) (_ : n = n') (i : ∀ a, (![n, 0, 0] : Fin 3 → ℕ) a + S1x256x1024.size a ≤ S8x256x1024.size a)
      (i' : ∀ a, (![n', 0, 0] : Fin 3 → ℕ) a + S1x256x1024.size a ≤ S8x256x1024.size a),
      (m.slice (Rect.unit (s := S8x256x1024) ![n, 0, 0] S1x256x1024.size i) (fun _ => rfl)).squeeze S256x1024 squeezes_S1x256x1024_S256x1024
        = (m.slice (Rect.unit (s := S8x256x1024) ![n', 0, 0] S1x256x1024.size i') (fun _ => rfl)).squeeze S256x1024 squeezes_S1x256x1024_S256x1024 := by
    intro n n' e i i'
    subst e
    rfl
  exact aux _ _ h _ _

variable (I : Ins F) (K : GSem nD τ sig → ℕ) (c : Dev nD)

/-- A later step of the summing chain. -/
theorem sumStep_spec (t : ℕ) (ht : t < 6) (l : List (ℕ × ℕ)) (hl : ∀ p ∈ (3, t + 1) :: l, lvOf 3 t < lvOf (p.1 % 4) (p.2 % 7))
    (Q : PUnit → sProp 𝕄) :
    iprop(env I K ∗ ch1 (F := F) c 2 t ∗ ch0 (F := F) c 2 (t + 1) (slotM rM (t + 1)) ∗ due (F := F) c ((3, t + 1) :: l))
      ⊢ iprop((ch2 (F := F) c 2 t ∗ ch1 (F := F) c 2 (t + 1) ∗ due (F := F) c l -∗ Q ⟨⟩)
        -∗ wp frame (wpE (defs₀ (F := F)) 𝒱₀ c none) Set.univ (sumStep (F := F) c t (pcV I (t + 1) c)) Q) := by
  iintro ⟨#He, H1, H0, HO⟩ Hk
  unfold sumStep
  rw [wp_bind]
  iapply (rsWait_spec I K c t (by omega) ((3, t + 1) :: l) hl) $$ [H1 HO]
  · isplitr; · iexact He
    isplitl [H1]; · iexact H1
    iexact HO
  iintro ⟨H2, Hs, HO⟩
  rw [wp_bind]
  iapply (slotLoad_spec c rM t fullShare _) $$ [Hs]
  · iexact Hs
  iintro Hs
  rw [wp_bind]
  iapply (slotLoad_spec c rM t fullShare _) $$ [Hs]
  · iexact Hs
  iintro Hs
  rw [wp_bind]
  iapply (slotStore_spec c (Memref.isWhole_whole cc0_scratch1) t _ _) $$ [Hs]
  · iexact Hs
  iintro Hs
  iapply (rsStart_spec I K c (t + 1) (by omega) l) $$ [H0 Hs HO]
  · isplitr; · iexact He
    isplitl [Hs]
    · rw [slotM_congr rM (show (t + 1 + 7) % 8 = t % 8 by omega)]
      iexact Hs
    isplitl [H0]; · iexact H0
    iexact HO
  iintro ⟨H1, HO⟩
  iapply Hk
  isplitl [H2]; · iexact H2
  isplitl [H1]; · iexact H1
  iexact HO

section
variable (a1 : Memref sig .tc .vmem S1024x1024 .bf16) (a2 a3 : Memref sig .tc .vmem S8x2048x128 .bf16)
  (a4 : Memref sig .tc .vmem S1024x1024 .bf16)

/-- What the attention over a slot reads and overwrites. -/
def desk : sProp 𝕄 :=
  iprop(wins c a1 a2 a3 a4 (I.wq c) (I.k c) (I.v c) (I.wo c) ∗ ∃ q, owns (c : Thread nD τ) qM fullShare q)

/-- The attention over slot `t+1` is this device's share of it. -/
theorem attn_spec (t : ℕ) (qs : PosShare TreeShare) (Q : FVec F S256x1024 .f32 → sProp 𝕄) :
    iprop(desk I c a1 a2 a3 a4 ∗ owns (c : Thread nD τ) (slotM xM (t + 1)) qs (xAt I (t + 1) c))
      ⊢ iprop((desk I c a1 a2 a3 a4 ∗ owns (c : Thread nD τ) (slotM xM (t + 1)) qs (xAt I (t + 1) c) -∗ Q (pcV I t c))
        -∗ wp frame (wpE (defs₀ (F := F)) 𝒱₀ c none) Set.univ (slotAttn (F := F) a1 a2 a3 a4 c t) Q) := by
  unfold desk
  iintro ⟨⟨Hw, ⟨%q, Hq⟩⟩, Hs⟩ Hk
  iapply (slotAttn_spec c a1 a2 a3 a4 (I.wq c) (I.k c) (I.v c) (I.wo c) t qs (xAt I (t + 1) c) q) $$ [Hw Hq Hs]
  · isplitl [Hw]; · iexact Hw
    isplitl [Hq]; · iexact Hq
    iexact Hs
  iintro ⟨Hw, Hq, Hs⟩
  rw [show attnV (chunk c t) (k0_pay2 (xAt I (t + 1) c) (I.wq c)) (I.k c) (I.v c) (I.wo c) = pcV I t c from rfl]
  iapply Hk
  isplitl [Hw Hq]
  · isplitl [Hw]; · iexact Hw
    iexists _
    iexact Hq
  iexact Hs

/-- What both chains leave behind of step `t` once its counterparts have arrived. -/
def left (t : ℕ) : sProp 𝕄 :=
  iprop(ch2 (F := F) c 0 t ∗ ch2 (F := F) c 2 t ∗ owns (c : Thread nD τ) (slotM xM t) fullShare.left (xAt I t c))

/-- Where both chains stand between two steps: gathering is one ahead of summing. -/
def mid (t : ℕ) : sProp 𝕄 :=
  iprop(ch2 (F := F) c 0 t ∗ ch1 (F := F) c 0 (t + 1) ∗ ch1 (F := F) c 2 t
    ∗ owns (c : Thread nD τ) (slotM xM t) fullShare.left (xAt I t c) ∗ owns (c : Thread nD τ) (slotM xM (t + 1)) fullShare.left (xAt I (t + 1) c))

/-- A middle step of both chains. -/
theorem ringStep_spec (t : ℕ) (ht : t < 5) (l : List (ℕ × ℕ))
    (hl : ∀ p ∈ l, lvOf 1 (t + 1) < lvOf (p.1 % 4) (p.2 % 7)) (Q : PUnit → sProp 𝕄) :
    iprop(env I K ∗ desk I c a1 a2 a3 a4 ∗ mid I c t ∗ ch0 (F := F) c 0 (t + 2) (slotM xM (t + 3))
        ∗ ch0 (F := F) c 2 (t + 1) (slotM rM (t + 1)) ∗ due (F := F) c ((1, t + 2) :: (3, t + 1) :: l))
      ⊢ iprop((desk I c a1 a2 a3 a4 ∗ left I c t ∗ mid I c (t + 1) ∗ due (F := F) c l -∗ Q ⟨⟩)
        -∗ wp frame (wpE (defs₀ (F := F)) 𝒱₀ c none) Set.univ (ringStep (F := F) a1 a2 a3 a4 c t) Q) := by
  have e1 : lvOf 1 (t + 1) = 2 * t + 4 := by unfold lvOf; rw [if_pos rfl]; omega
  have e3 : lvOf 3 t = 2 * t + 3 := rfl
  have h1 : lvOf (1 % 4) ((t + 2) % 7) = 2 * t + 6 := by
    rw [Nat.mod_eq_of_lt (show t + 2 < 7 by omega)]; unfold lvOf; rw [if_pos rfl]; omega
  have h3 : lvOf (3 % 4) ((t + 1) % 7) = 2 * t + 5 := by
    rw [Nat.mod_eq_of_lt (show t + 1 < 7 by omega)]; show 2 * (t + 1) + 3 = _; omega
  unfold mid ringStep left
  iintro ⟨#He, Hd, ⟨Hx0, Hx1, Hr0, Hs0, Hs1⟩, Hx2, Hr1, HO⟩ Hk
  rw [wp_bind]
  iapply (agWait_spec I K c (t + 1) (by omega) ((1, t + 2) :: (3, t + 1) :: l) (by
    intro p hp
    rcases List.mem_cons.mp hp with rfl | hp
    · rw [e1]; exact h1.symm ▸ (by omega)
    rcases List.mem_cons.mp hp with rfl | hp
    · rw [e1]; exact h3.symm ▸ (by omega)
    exact hl p hp)) $$ [Hx1 HO]
  · isplitr; · iexact He
    isplitl [Hx1]; · iexact Hx1
    iexact HO
  iintro ⟨Hx1, Hs2, HO⟩
  rw [wp_bind]
  iapply (agStart_spec I K c (t + 2) (by omega) ((3, t + 1) :: l)) $$ [Hs2 Hx2 HO]
  · isplitr; · iexact He
    isplitl [Hs2]; · iexact Hs2
    isplitl [Hx2]; · iexact Hx2
    iexact HO
  iintro ⟨Hs2, Hx2, HO⟩
  rw [wp_bind]
  iapply (attn_spec I c a1 a2 a3 a4 (t + 1) fullShare.left) $$ [Hd Hs2]
  · isplitl [Hd]; · iexact Hd
    iexact Hs2
  iintro ⟨Hd, Hs2⟩
  iapply (sumStep_spec I K c t (by omega) l (by
    intro p hp
    rcases List.mem_cons.mp hp with rfl | hp
    · rw [e3]; exact h3.symm ▸ (by omega)
    exact lt_trans (by omega) (hl p hp))) $$ [Hr0 Hr1 HO]
  · isplitr; · iexact He
    isplitl [Hr0]; · iexact Hr0
    isplitl [Hr1]; · iexact Hr1
    iexact HO
  iintro ⟨Hr0, Hr1, HO⟩
  iapply Hk
  isplitl [Hd]; · iexact Hd
  isplitl [Hx0 Hr0 Hs0]
  · isplitl [Hx0]; · iexact Hx0
    isplitl [Hr0]; · iexact Hr0
    iexact Hs0
  isplitl [Hx1 Hx2 Hr1 Hs1 Hs2]
  · isplitl [Hx1]; · iexact Hx1
    isplitl [Hx2]; · iexact Hx2
    isplitl [Hr1]; · iexact Hr1
    isplitl [Hs1]; · iexact Hs1
    iexact Hs2
  iexact HO

end

end Cert.Proof

end
-- ==== Proof.Whole.lean ====
/- The whole body on one device, from the entry handshake to the last wait. -/
module

public import proofs.«01_k».proof.Proof.Run

@[expose] public section

noncomputable section

namespace Cert.Proof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

/-- A family over the seven steps, step by step. -/
theorem seven {M : Type} [URA M] (Φ : Fin 7 → sProp M) :
    bigSep Finset.univ Φ = iprop(Φ 0 ∗ Φ 1 ∗ Φ 2 ∗ Φ 3 ∗ Φ 4 ∗ Φ 5 ∗ Φ 6) :=
  bigSep_univ_eq_bigSepL [(0 : Fin 7), 1, 2, 3, 4, 5, 6] (by decide) (by decide) Φ

/-- Rows written to a slot as the program writes them are the rows. -/
theorem rowsOf_k0_pay1 (x : Vec F S256x1024 .bf16) : rowsOf (k0_pay1 x) = x := by
  unfold k0_pay1
  rw [show shapeCast S256x1024 x shapeCasts_S256x1024_S256x1024 = x from funext fun i => congrArg x (Shape.reshapeEquiv_self _ i)]
  exact rowsOf_slotOf x

variable (I : Ins F) (K : GSem nD τ sig → ℕ) (c : Dev nD)

/-- One copy before the handshake. -/
def idle (j t : ℕ) : sProp 𝕄 :=
  iprop(atPos ER (dC c j t) 0 ∅ 0 ∗ atPos ER (dC c (j + 1) t) 0 ∅ 0 ∗ cred (tallyAt (dC c (j + 1) t) () N) ∗ tok (F := F) c j t)

/-- With the room the handshake brings, both copies of a step may start. -/
theorem equip (t : ℕ) :
    iprop((idle (F := F) c 0 t ∗ idle (F := F) c 2 t) ∗ room (F := F) (nxt c) t)
      ⊢ iprop(ch0 (F := F) c 0 t (slotM xM (t + 1)) ∗ ch0 (F := F) c 2 t (slotM rM t)) := by
  unfold idle room ch0 anySlot
  iintro ⟨⟨⟨Ha, Hb, Hc, Ht⟩, ⟨Ha', Hb', Hc', Ht'⟩⟩, ⟨⟨Hs, #Hr⟩, ⟨Hs', #Hr'⟩⟩⟩
  isplitl [Ha Hb Hc Ht Hs]
  · isplitl [Ha]; · iexact Ha
    isplitl [Hb]; · iexact Hb
    isplitl [Hc]; · iexact Hc
    isplitl [Ht]; · iexact Ht
    isplitl [Hs]; · iexact Hs
    iexact Hr
  isplitl [Ha']; · iexact Ha'
  isplitl [Hb']; · iexact Hb'
  isplitl [Hc']; · iexact Hc'
  isplitl [Ht']; · iexact Ht'
  isplitl [Hs']; · iexact Hs'
  iexact Hr'

/-- A device reads its own number. -/
theorem device_spec (Q : Dev nD → sProp 𝕄) :
    Q c ⊢ wp frame (wpE (defs₀ (F := F)) 𝒱₀ c none) Set.univ (Prog.lift .deviceId) Q := by
  show _ ⊢ wp frame (wpE (defs₀ (F := F)) 𝒱₀ c none) Set.univ (.op .deviceId .ret) Q
  rw [wp_deviceId, wp_ret]
  iintro H
  imodintro
  iexact H

/-- What one step of both chains leaves at the end. -/
def done (t : ℕ) : sProp 𝕄 :=
  iprop((ch3 (F := F) c 0 t ∗ ch3 (F := F) c 2 t) ∗ (anySlot (F := F) c xM t ∗ anySlot (F := F) c rM (t + 7)))

/-- Waiting for both sends of a step. -/
theorem leave_spec (t : ℕ) (ht : t < 7) (Q : PUnit → sProp 𝕄) :
    iprop(env I K ∗ left I c t ∗ due (F := F) c [])
      ⊢ iprop((done (F := F) c t ∗ due (F := F) c [] -∗ Q ⟨⟩)
        -∗ wp frame (wpE (defs₀ (F := F)) 𝒱₀ c none) Set.univ (sent (F := F) t) Q) := by
  unfold left done
  iintro ⟨#He, ⟨H, H', Hs⟩, HO⟩ Hk
  iapply (sent_spec I K c t ht) $$ [H H' Hs HO]
  · isplitr; · iexact He
    isplitl [H]; · iexact H
    isplitl [H']; · iexact H'
    isplitl [Hs]; · iexact Hs
    iexact HO
  iintro ⟨H, H', HO⟩
  iapply Hk
  isplitl [H H']
  · isplitl [H]; · iexact H
    iexact H'
  iexact HO

section
variable (a0 : Memref sig .tc .vmem S256x1024 .bf16) (a1 : Memref sig .tc .vmem S1024x1024 .bf16)
  (a2 a3 : Memref sig .tc .vmem S8x2048x128 .bf16) (a4 : Memref sig .tc .vmem S1024x1024 .bf16)
  (a5 : Memref sig .tc .vmem S256x1024 .f32)

/-- What the body starts with besides its protocol state. -/
def atDesk : sProp 𝕄 :=
  iprop(owns (c : Thread nD τ) a0 fullShare (I.x c) ∗ desk I c a1 a2 a3 a4)

/-- The body's protocol state before the handshake. -/
def before : sProp 𝕄 :=
  iprop(atPos ER (barCell c) 0 ∅ 0 ∗ cred (tallyAt (barCell c) () 1) ∗ dutyTok ER (barCell (prv c)) 0 ()
    ∗ (bigSep (Finset.univ : Finset (Fin 7)) fun t => room (F := F) c t.val)
    ∗ (bigSep (Finset.univ : Finset (Fin 7)) fun t => iprop(idle (F := F) c 0 t.val ∗ idle (F := F) c 2 t.val))
    ∗ ∃ W, owes (c : Thread nD τ) (O₀ c) W)

set_option maxHeartbeats 4000000 in
/-- The run of the body on device `c`: the result block is left at `outV`, and every cell, slot and block comes back. -/
theorem kern_spec (Q : PUnit → sProp 𝕄) :
    iprop(env I K ∗ before (F := F) c ∗ atDesk I c a0 a1 a2 a3 a4 ∗ (∃ o, owns (c : Thread nD τ) a5 fullShare o)
        ∗ anySlot (F := F) c xM 0 ∗ anySlot (F := F) c rM 7)
      ⊢ iprop(((atPos ER (barCell c) 1 ∅ 0 ∗ due (F := F) c []) ∗ atDesk I c a0 a1 a2 a3 a4 ∗ owns (c : Thread nD τ) a5 fullShare (outV I c)
          ∗ (bigSep (Finset.univ : Finset (Fin 7)) fun t => done (F := F) c t.val)
          ∗ anySlot (F := F) c xM 7 ∗ anySlot (F := F) c rM 6 -∗ Q ⟨⟩)
        -∗ wp frame (wpE (defs₀ (F := F)) 𝒱₀ c none) Set.univ (kern a0 a1 a2 a3 a4 a5) Q) := by
  unfold before atDesk anySlot
  iintro ⟨#He, ⟨Hbar, Hcb, Htb, Hroom, Hidle, HO⟩, ⟨H0, Hd⟩, ⟨%o, H5⟩, ⟨%X0, Hx⟩, ⟨%R7, Hr⟩⟩ Hk
  unfold kern
  rw [wp_bind]
  iapply (device_spec c)
  iapply (enter_spec I K c allOwed (by decide) _ (leftOf_eq c)) $$ [Hbar Hcb Htb Hroom HO]
  · isplitr; · iexact He
    isplitl [Hbar]; · iexact Hbar
    isplitl [Hcb]; · iexact Hcb
    isplitl [Htb]; · iexact Htb
    isplitl [Hroom]; · iexact Hroom
    iexact HO
  iintro ⟨Hbar, Hroom, HO⟩
  icombine Hidle Hroom as Hch
  ihave Hch := (show iprop((bigSep (Finset.univ : Finset (Fin 7)) fun t => iprop(idle (F := F) c 0 t.val ∗ idle (F := F) c 2 t.val))
      ∗ (bigSep (Finset.univ : Finset (Fin 7)) fun t => room (F := F) (nxt c) t.val))
      ⊢ bigSep (Finset.univ : Finset (Fin 7)) fun t => iprop(ch0 (F := F) c 0 t.val (slotM xM (t.val + 1)) ∗ ch0 (F := F) c 2 t.val (slotM rM t.val)) from
    (Entails.of_eq (bigSep_sep _ _ _).symm).trans (bigSep_mono fun t _ => equip c t.val)) $$ Hch
  ihave Hch := (Entails.of_eq (seven _)) $$ Hch
  icases Hch with ⟨⟨X0, R0⟩, ⟨X1, R1⟩, ⟨X2, R2⟩, ⟨X3, R3⟩, ⟨X4, R4⟩, ⟨X5, R5⟩, ⟨X6, R6⟩⟩
  rw [wp_bind]
  iapply (rowsLoad_spec c a0 fullShare _) $$ [H0]
  · iexact H0
  iintro H0
  rw [wp_bind]
  iapply (slotLoad_spec c xM 0 fullShare _) $$ [Hx]
  · iexact Hx
  iintro Hx
  rw [wp_bind]
  iapply (slotStore_spec c (Memref.isWhole_whole cc0_scratch0) 0 _ _) $$ [Hx]
  · iexact Hx
  iintro Hx
  rw [rowsOf_k0_pay1]
  rw [wp_bind]
  iapply (agStart_spec I K c 0 (by decide) (allOwed.drop 1)) $$ [Hx X0 HO]
  · isplitr; · iexact He
    isplitl [Hx]; · iexact Hx
    isplitl [X0]; · iexact X0
    iexact HO
  iintro ⟨S0, X0, HO⟩
  rw [wp_bind]
  iapply (rowsLoad_spec c a0 fullShare _) $$ [H0]
  · iexact H0
  iintro H0
  unfold desk
  icases Hd with ⟨Hw, ⟨%q, Hq⟩⟩
  unfold wins
  icases Hw with ⟨W1, W2, W3, W4⟩
  rw [wp_bind]
  iapply (weightLoad_spec c a1 fullShare _) $$ [W1]
  · iexact W1
  iintro W1
  rw [wp_bind]
  iapply (rowsLoad_spec c qM fullShare _) $$ [Hq]
  · iexact Hq
  iintro Hq
  rw [wp_bind]
  iapply (qStore_spec c _ _) $$ [Hq]
  · iexact Hq
  iintro Hq
  rw [wp_bind]
  iapply (heads_spec c a1 a2 a3 a4 (I.wq c) (I.k c) (I.v c) (I.wo c) (place c) (k0_pay2 (I.x c) (I.wq c))) $$ [W1 W2 W3 W4 Hq]
  · unfold wins
    isplitl [W1 W2 W3 W4]
    · isplitl [W1]; · iexact W1
      isplitl [W2]; · iexact W2
      isplitl [W3]; · iexact W3
      iexact W4
    iexact Hq
  iintro ⟨Hw, Hq⟩
  ihave Hd := (show iprop(wins c a1 a2 a3 a4 (I.wq c) (I.k c) (I.v c) (I.wo c) ∗ owns (c : Thread nD τ) qM fullShare (k0_pay2 (I.x c) (I.wq c)))
      ⊢ desk I c a1 a2 a3 a4 from by
    unfold desk
    iintro ⟨Hw, Hq⟩
    isplitl [Hw]; · iexact Hw
    iexists _
    iexact Hq) $$ [Hw Hq]
  · isplitl [Hw]; · iexact Hw
    iexact Hq
  rw [wp_bind]
  iapply (agWait_spec I K c 0 (by decide) (allOwed.drop 1) (by decide)) $$ [X0 HO]
  · isplitr; · iexact He
    isplitl [X0]; · iexact X0
    iexact HO
  iintro ⟨X0, S1, HO⟩
  rw [wp_bind]
  iapply (agStart_spec I K c 1 (by decide) (allOwed.drop 2)) $$ [S1 X1 HO]
  · isplitr; · iexact He
    isplitl [S1]; · iexact S1
    isplitl [X1]; · iexact X1
    iexact HO
  iintro ⟨S1, X1, HO⟩
  rw [wp_bind]
  iapply (attn_spec I c a1 a2 a3 a4 0 fullShare.left) $$ [Hd S1]
  · isplitl [Hd]; · iexact Hd
    iexact S1
  iintro ⟨Hd, S1⟩
  rw [wp_bind]
  iapply (slotLoad_spec c rM 7 fullShare _) $$ [Hr]
  · iexact Hr
  iintro Hr
  rw [wp_bind]
  iapply (slotStore_spec c (Memref.isWhole_whole cc0_scratch1) 7 _ _) $$ [Hr]
  · iexact Hr
  iintro Hr
  rw [wp_bind]
  iapply (rsStart_spec I K c 0 (by decide) (allOwed.drop 3)) $$ [Hr R0 HO]
  · isplitr; · iexact He
    isplitl [Hr]; · iexact Hr
    isplitl [R0]; · iexact R0
    iexact HO
  iintro ⟨R0, HO⟩
  ihave Hm := (show iprop(ch2 (F := F) c 0 0 ∗ ch1 (F := F) c 0 1 ∗ ch1 (F := F) c 2 0
      ∗ owns (c : Thread nD τ) (slotM xM 0) fullShare.left (xAt I 0 c) ∗ owns (c : Thread nD τ) (slotM xM 1) fullShare.left (xAt I 1 c))
      ⊢ mid I c 0 from BI.Entails.refl _) $$ [X0 X1 R0 S0 S1]
  · isplitl [X0]; · iexact X0
    isplitl [X1]; · iexact X1
    isplitl [R0]; · iexact R0
    isplitl [S0]; · iexact S0
    iexact S1
  rw [wp_bind]
  iapply (ringStep_spec I K c a1 a2 a3 a4 0 (by decide) [(1, 3), (3, 2), (1, 4), (3, 3), (1, 5), (3, 4), (1, 6), (3, 5), (3, 6)] (by decide)) $$ [Hd Hm X2 R1 HO]
  · isplitr; · iexact He
    isplitl [Hd]; · iexact Hd
    isplitl [Hm]; · iexact Hm
    isplitl [X2]; · iexact X2
    isplitl [R1]; · iexact R1
    iexact HO
  iintro ⟨Hd, L0, Hm, HO⟩
  rw [wp_bind]
  iapply (ringStep_spec I K c a1 a2 a3 a4 1 (by decide) [(1, 4), (3, 3), (1, 5), (3, 4), (1, 6), (3, 5), (3, 6)] (by decide)) $$ [Hd Hm X3 R2 HO]
  · isplitr; · iexact He
    isplitl [Hd]; · iexact Hd
    isplitl [Hm]; · iexact Hm
    isplitl [X3]; · iexact X3
    isplitl [R2]; · iexact R2
    iexact HO
  iintro ⟨Hd, L1, Hm, HO⟩
  rw [wp_bind]
  iapply (ringStep_spec I K c a1 a2 a3 a4 2 (by decide) [(1, 5), (3, 4), (1, 6), (3, 5), (3, 6)] (by decide)) $$ [Hd Hm X4 R3 HO]
  · isplitr; · iexact He
    isplitl [Hd]; · iexact Hd
    isplitl [Hm]; · iexact Hm
    isplitl [X4]; · iexact X4
    isplitl [R3]; · iexact R3
    iexact HO
  iintro ⟨Hd, L2, Hm, HO⟩
  rw [wp_bind]
  iapply (ringStep_spec I K c a1 a2 a3 a4 3 (by decide) [(1, 6), (3, 5), (3, 6)] (by decide)) $$ [Hd Hm X5 R4 HO]
  · isplitr; · iexact He
    isplitl [Hd]; · iexact Hd
    isplitl [Hm]; · iexact Hm
    isplitl [X5]; · iexact X5
    isplitl [R4]; · iexact R4
    iexact HO
  iintro ⟨Hd, L3, Hm, HO⟩
  rw [wp_bind]
  iapply (ringStep_spec I K c a1 a2 a3 a4 4 (by decide) [(3, 6)] (by decide)) $$ [Hd Hm X6 R5 HO]
  · isplitr; · iexact He
    isplitl [Hd]; · iexact Hd
    isplitl [Hm]; · iexact Hm
    isplitl [X6]; · iexact X6
    isplitl [R5]; · iexact R5
    iexact HO
  iintro ⟨Hd, L4, Hm, HO⟩
  unfold mid
  icases Hm with ⟨X5, X6, R5, S5, S6⟩
  rw [wp_bind]
  iapply (agWait_spec I K c 6 (by decide) [(3, 6)] (by decide)) $$ [X6 HO]
  · isplitr; · iexact He
    isplitl [X6]; · iexact X6
    iexact HO
  iintro ⟨X6, S7, HO⟩
  rw [wp_bind]
  iapply (attn_spec I c a1 a2 a3 a4 6 fullShare) $$ [Hd S7]
  · isplitl [Hd]; · iexact Hd
    iexact S7
  iintro ⟨Hd, S7⟩
  rw [wp_bind]
  iapply (sumStep_spec I K c 5 (by decide) [] (by decide)) $$ [R5 R6 HO]
  · isplitr; · iexact He
    isplitl [R5]; · iexact R5
    isplitl [R6]; · iexact R6
    iexact HO
  iintro ⟨R5, R6, HO⟩
  rw [wp_bind]
  iapply (rsWait_spec I K c 6 (by decide) [] (by decide)) $$ [R6 HO]
  · isplitr; · iexact He
    isplitl [R6]; · iexact R6
    iexact HO
  iintro ⟨R6, Hr, HO⟩
  ihave L5 := (show iprop(ch2 (F := F) c 0 5 ∗ ch2 (F := F) c 2 5 ∗ owns (c : Thread nD τ) (slotM xM 5) fullShare.left (xAt I 5 c))
      ⊢ left I c 5 from BI.Entails.refl _) $$ [X5 R5 S5]
  · isplitl [X5]; · iexact X5
    isplitl [R5]; · iexact R5
    iexact S5
  ihave L6 := (show iprop(ch2 (F := F) c 0 6 ∗ ch2 (F := F) c 2 6 ∗ owns (c : Thread nD τ) (slotM xM 6) fullShare.left (xAt I 6 c))
      ⊢ left I c 6 from BI.Entails.refl _) $$ [X6 R6 S6]
  · isplitl [X6]; · iexact X6
    isplitl [R6]; · iexact R6
    iexact S6
  rw [wp_bind]
  iapply (slotLoad_spec c rM 6 fullShare _) $$ [Hr]
  · iexact Hr
  iintro Hr
  rw [wp_bind]
  iapply (rowsLoad_spec c a5 fullShare _) $$ [H5]
  · iexact H5
  iintro H5
  rw [wp_bind]
  iapply (outStore_spec c a5 _ _) $$ [H5]
  · iexact H5
  iintro H5
  rw [wp_bind]
  iapply (leave_spec I K c 0 (by decide)) $$ [L0 HO]
  · isplitr; · iexact He
    isplitl [L0]; · iexact L0
    iexact HO
  iintro ⟨D0, HO⟩
  rw [wp_bind]
  iapply (leave_spec I K c 1 (by decide)) $$ [L1 HO]
  · isplitr; · iexact He
    isplitl [L1]; · iexact L1
    iexact HO
  iintro ⟨D1, HO⟩
  rw [wp_bind]
  iapply (leave_spec I K c 2 (by decide)) $$ [L2 HO]
  · isplitr; · iexact He
    isplitl [L2]; · iexact L2
    iexact HO
  iintro ⟨D2, HO⟩
  rw [wp_bind]
  iapply (leave_spec I K c 3 (by decide)) $$ [L3 HO]
  · isplitr; · iexact He
    isplitl [L3]; · iexact L3
    iexact HO
  iintro ⟨D3, HO⟩
  rw [wp_bind]
  iapply (leave_spec I K c 4 (by decide)) $$ [L4 HO]
  · isplitr; · iexact He
    isplitl [L4]; · iexact L4
    iexact HO
  iintro ⟨D4, HO⟩
  rw [wp_bind]
  iapply (leave_spec I K c 5 (by decide)) $$ [L5 HO]
  · isplitr; · iexact He
    isplitl [L5]; · iexact L5
    iexact HO
  iintro ⟨D5, HO⟩
  iapply (leave_spec I K c 6 (by decide)) $$ [L6 HO]
  · isplitr; · iexact He
    isplitl [L6]; · iexact L6
    iexact HO
  iintro ⟨D6, HO⟩
  iapply Hk
  isplitl [Hbar HO]
  · isplitl [Hbar]; · iexact Hbar
    iexact HO
  isplitl [H0 Hd]
  · isplitl [H0]; · iexact H0
    unfold desk wins
    iexact Hd
  isplitl [H5]; · iexact H5
  isplitl [D0 D1 D2 D3 D4 D5 D6]
  · rw [seven]
    isplitl [D0]; · iexact D0
    isplitl [D1]; · iexact D1
    isplitl [D2]; · iexact D2
    isplitl [D3]; · iexact D3
    isplitl [D4]; · iexact D4
    isplitl [D5]; · iexact D5
    iexact D6
  isplitl [S7]
  · iexists _; iexact S7
  iexists _
  iexact Hr

end

end Cert.Proof

end
-- ==== Proof.Slots.lean ====
/- The eight slots of a scratch buffer are the buffer: splitting it before the run, joining it after. -/
module

public import proofs.«01_k».proof.Proof.Whole

@[expose] public section

noncomputable section

namespace Cert.Proof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

/-- An element stands in slot `k` where its first coordinate says so. -/
theorem mem_slotR (k : ℕ) (i : S8x256x1024.Idx) : i ∈ (slotR k).set ↔ (i 0).val = k % 8 := by
  rw [Rect.mem_set_unit]
  constructor
  · intro h
    have h0 := h 0
    have e1 : (![k % 8, 0, 0] : Fin 3 → ℕ) 0 = k % 8 := rfl
    have e2 : S1x256x1024.size 0 = 1 := rfl
    rw [e1, e2] at h0
    omega
  · intro h a
    fin_cases a
    · show k % 8 ≤ (i 0).val ∧ (i 0).val < k % 8 + 1; omega
    · exact ⟨Nat.zero_le _, by show (i 1).val < 0 + 256; have : (i 1).val < 256 := (i 1).isLt; omega⟩
    · exact ⟨Nat.zero_le _, by show (i 2).val < 0 + 1024; have : (i 2).val < 1024 := (i 2).isLt; omega⟩

/-- Two slots share no element. -/
theorem slots_apart (k k' : Fin 8) (h : k ≠ k') : Disjoint (slotR k.val).set (slotR k'.val).set := by
  rw [Finset.disjoint_left]
  intro i hi hi'
  rw [mem_slotR] at hi hi'
  apply h
  apply Fin.ext
  have := k.isLt
  have := k'.isLt
  omega

/-- Every element stands in a slot. -/
theorem slots_cover : (Finset.univ : Finset (Fin 8)).biUnion (fun k => (slotR k.val).set) = Finset.univ := by
  ext i
  simp only [Finset.mem_biUnion, Finset.mem_univ, true_and, iff_true]
  refine ⟨⟨(i 0).val, (i 0).isLt⟩, (mem_slotR _ i).mpr ?_⟩
  exact (Nat.mod_eq_of_lt (i 0).isLt).symm

variable (c : Dev nD)

/-- A slot's elements, as elements of the buffer. -/
theorem slotM_set (m : Memref sig .tc .vmem S8x256x1024 .bf16) (k : ℕ) : (slotM m k).view.set = (slotR k).set.map m.view.emb := by
  rw [show (slotM m k).view.set = (m.view.slice (slotR k)).set from View.set_reshape _ _, View.set_slice]

/-- Slots are apart in the buffer too. -/
theorem slotM_apart (m : Memref sig .tc .vmem S8x256x1024 .bf16) (k k' : Fin 8) (h : k ≠ k') :
    Disjoint (slotM m k.val).view.set (slotM m k'.val).view.set := by
  rw [slotM_set, slotM_set]
  exact (Finset.disjoint_map _).mpr (slots_apart k k' h)

/-- And they make it up. -/
theorem slotM_cover (m : Memref sig .tc .vmem S8x256x1024 .bf16) :
    m.view.set = (Finset.univ : Finset (Fin 8)).biUnion fun k => (slotM m k.val).view.set := by
  rw [show m.view.set = Finset.univ.map m.view.emb from rfl, ← slots_cover]
  refine Finset.ext fun x => ⟨fun h => ?_, fun h => ?_⟩
  · obtain ⟨i, h, e⟩ := Finset.mem_map.mp h
    obtain ⟨k, hk, hi⟩ := Finset.mem_biUnion.mp h
    exact Finset.mem_biUnion.mpr ⟨k, hk, (slotM_set m k.val).symm ▸ Finset.mem_map.mpr ⟨i, hi, e⟩⟩
  · obtain ⟨k, hk, h⟩ := Finset.mem_biUnion.mp h
    rw [slotM_set] at h
    obtain ⟨i, hi, e⟩ := Finset.mem_map.mp h
    exact Finset.mem_map.mpr ⟨i, Finset.mem_biUnion.mpr ⟨k, hk, hi⟩, e⟩

/-- A slot's elements, at whatever contents, are the slot. -/
theorem slot_of (m : Memref sig .tc .vmem S8x256x1024 .bf16) (k : ℕ) (f : Buf (Elt F) (m.view.loc (c : Thread nD τ))) :
    (m.view.loc (c : Thread nD τ) ↦[(slotM m k).view.set]{fullShare} f : sProp 𝕄) ⊢ anySlot (F := F) c m k := by
  unfold anySlot
  iintro H
  iexists _
  iapply (owns_of c (slotM m k) fullShare f rfl)
  iexact H

/-- And back. -/
theorem slot_to (m : Memref sig .tc .vmem S8x256x1024 .bf16) (k : ℕ) :
    anySlot (F := F) c m k ⊢ (iprop(∃ f : Buf (Elt F) (m.view.loc (c : Thread nD τ)),
        m.view.loc (c : Thread nD τ) ↦[(slotM m k).view.set]{fullShare} f) : sProp 𝕄) := by
  unfold anySlot owns
  iintro ⟨%Y, %f, -, H⟩
  iexists f
  iexact H

/-- A buffer is its eight slots. -/
theorem slots_of (m : Memref sig .tc .vmem S8x256x1024 .bf16) (f : Buf (Elt F) (m.view.loc (c : Thread nD τ))) :
    (m.view.loc (c : Thread nD τ) ↦[m.view.set]{fullShare} f : sProp 𝕄)
      ⊢ bigSep (Finset.univ : Finset (Fin 8)) fun k => anySlot (F := F) c m k.val := by
  rw [slotM_cover m, pointsTo_biUnion _ _ fun k _ k' _ h => slotM_apart m k k' h]
  exact bigSep_mono fun k _ => slot_of c m k.val f

/-- Its eight slots, whatever they hold, are the buffer. -/
theorem slots_to (m : Memref sig .tc .vmem S8x256x1024 .bf16) :
    (bigSep (Finset.univ : Finset (Fin 8)) fun k => anySlot (F := F) c m k.val)
      ⊢ (iprop(∃ f : Buf (Elt F) (m.view.loc (c : Thread nD τ)), m.view.loc (c : Thread nD τ) ↦[m.view.set]{fullShare} f) : sProp 𝕄) := by
  have h1 : (bigSep (Finset.univ : Finset (Fin 8)) fun k => anySlot (F := F) c m k.val)
      ⊢ (bigSep (Finset.univ : Finset (Fin 8)) fun k => iprop(∃ f : Buf (Elt F) (m.view.loc (c : Thread nD τ)),
        m.view.loc (c : Thread nD τ) ↦[(slotM m k.val).view.set]{fullShare} f) : sProp 𝕄) := bigSep_mono fun k _ => slot_to c m k.val
  refine h1.trans ((bigSep_exists_pi (Finset.univ : Finset (Fin 8))
    (fun k (f : Buf (Elt F) (m.view.loc (c : Thread nD τ))) =>
      (m.view.loc (c : Thread nD τ) ↦[(slotM m k.val).view.set]{fullShare} f : sProp 𝕄))).trans ?_)
  iintro ⟨%fs, H⟩
  ihave H := (pointsTo_biUnion_join (Finset.univ : Finset (Fin 8)) (fun k => (slotM m k.val).view.set) fs (fs 0)
    (fun k _ k' _ h => slotM_apart m k k' h)) $$ H
  icases H with ⟨%g, -, H⟩
  iexists g
  rw [slotM_cover m]
  iexact H

/-- The list of a scratch buffer's slots. -/
theorem eight {M : Type} [URA M] (Φ : Fin 8 → sProp M) :
    bigSep Finset.univ Φ = iprop(Φ 0 ∗ Φ 1 ∗ Φ 2 ∗ Φ 3 ∗ Φ 4 ∗ Φ 5 ∗ Φ 6 ∗ Φ 7) :=
  bigSep_univ_eq_bigSepL [(0 : Fin 8), 1, 2, 3, 4, 5, 6, 7] (by decide) (by decide) Φ

end Cert.Proof

end
-- ==== Proof.Cells.lean ====
/- The body with its counters: the cells opened before it, closed after it, its scratch buffers whole on both sides. -/
module

public import proofs.«01_k».proof.Proof.Slots

@[expose] public section

noncomputable section

namespace Cert.Proof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

/-- A family over the four kinds, kind by kind. -/
theorem four {M : Type} [URA M] (Φ : Fin 4 → sProp M) : bigSep Finset.univ Φ = iprop(Φ 0 ∗ Φ 1 ∗ Φ 2 ∗ Φ 3) :=
  bigSep_univ_eq_bigSepL [(0 : Fin 4), 1, 2, 3] (by decide) (by decide) Φ

/-- A family over the copies' cells of a device, step by step and kind by kind. -/
theorem by_step {M : Type} [URA M] (c : Dev nD) (Φ : GSem nD τ sig → sProp M) :
    bigSep (Finset.univ : Finset (Fin 7 × Fin 4)) (fun p => Φ ((c : Thread nD τ), osem p))
      = bigSep (Finset.univ : Finset (Fin 7)) fun t => iprop(Φ (dC c 0 t.val) ∗ Φ (dC c 1 t.val) ∗ Φ (dC c 2 t.val) ∗ Φ (dC c 3 t.val)) := by
  rw [bigSep_univ_prod]
  exact bigSep_congr fun t _ => four (fun j : Fin 4 => Φ (dC c j.val t.val))

variable (I : Ins F) (K : GSem nD τ sig → ℕ) (c : Dev nD)

/-- A device's position on a copy's cell, and that the cell is open. -/
def opened (g : GSem nD τ sig) : sProp 𝕄 := iprop(atPos ER g 0 ∅ 0 ∗ reached ER g 0)

/-- One cell opened. -/
theorem open_cell (p : Fin 7 × Fin 4) :
    iprop(env I K ∗ (openTok ER ((c : Thread nD τ), osem p) ∗ semVal ((c : Thread nD τ), osem p) 0))
      ⊢ iprop(|={Set.univ}=> opened (F := F) ((c : Thread nD τ), osem p)) := by
  unfold opened
  iintro ⟨#He, Ho, Hv⟩
  ihave #Hi := (env_dC I K c p.2.val p.1.val) $$ He
  iapply (Rounds.cell_open ER (Rd I) (g := dC c p.2.val p.1.val) (Set.mem_univ (K (dC c p.2.val p.1.val)))) $$ [Ho Hv]
  isplitr; · iexact Hi
  isplitl [Ho]; · iexact Ho
  iexact Hv

/-- All of a device's copies' cells opened. -/
theorem open_cells :
    iprop(env I K ∗ (bigSep (Finset.univ : Finset (Fin 7 × Fin 4)) fun p => openTok ER ((c : Thread nD τ), osem p))
        ∗ Pipeline.ownSems0 osem c)
      ⊢ iprop(|={Set.univ}=> (bigSep (Finset.univ : Finset (Fin 7)) fun t =>
          iprop(opened (F := F) (dC c 0 t.val) ∗ opened (F := F) (dC c 1 t.val) ∗ opened (F := F) (dC c 2 t.val) ∗ opened (F := F) (dC c 3 t.val)))) := by
  rw [← by_step c (opened (F := F))]
  unfold Pipeline.ownSems0
  rw [← bigSep_sep']
  exact (bigSep_with_persistent (fun p _ => open_cell I K c p)).trans (bigSep_fupd _ _)

/-- A finished cell of a device gives its counter back at zero. -/
theorem close_cell (g : GSem nD τ sig) (κ : ℕ) :
    iprop(cellInv ER (Rd I) κ g ∗ atPos ER g 1 ∅ 0) ⊢ (|={Set.univ}=> semVal g 0 : sProp 𝕄) :=
  Rounds.cell_close ER (Rd I) (Set.mem_univ κ) id (duties_later I g)

/-- The four cells of one step closed. -/
theorem close_step (t : ℕ) :
    iprop(env I K ∗ (ch3 (F := F) c 0 t ∗ ch3 (F := F) c 2 t))
      ⊢ (|={Set.univ}=> iprop(semVal (dC c 0 t) 0 ∗ semVal (dC c 1 t) 0 ∗ semVal (dC c 2 t) 0 ∗ semVal (dC c 3 t) 0) : sProp 𝕄) := by
  unfold ch3
  iintro ⟨#He, ⟨H0, H1⟩, H2, H3⟩
  ihave #I0 := (env_dC I K c 0 t) $$ He
  ihave #I1 := (env_dC I K c 1 t) $$ He
  ihave #I2 := (env_dC I K c 2 t) $$ He
  ihave #I3 := (env_dC I K c 3 t) $$ He
  imod (close_cell I (dC c 0 t) (K (dC c 0 t))) $$ [H0] with H0
  · isplitr; · iexact I0
    iexact H0
  imod (close_cell I (dC c 1 t) (K (dC c 1 t))) $$ [H1] with H1
  · isplitr; · iexact I1
    iexact H1
  imod (close_cell I (dC c 2 t) (K (dC c 2 t))) $$ [H2] with H2
  · isplitr; · iexact I2
    iexact H2
  imod (close_cell I (dC c 3 t) (K (dC c 3 t))) $$ [H3] with H3
  · isplitr; · iexact I3
    iexact H3
  imodintro
  isplitl [H0]; · iexact H0
  isplitl [H1]; · iexact H1
  isplitl [H2]; · iexact H2
  iexact H3

/-- All of a device's copies' cells closed. -/
theorem close_cells :
    iprop(env I K ∗ (bigSep (Finset.univ : Finset (Fin 7)) fun t => iprop(ch3 (F := F) c 0 t.val ∗ ch3 (F := F) c 2 t.val)))
      ⊢ iprop(|={Set.univ}=> Pipeline.ownSems0 (Val := Elt F) (Name := ℕ) (U := UU) (Lvl := ℕ) (Ix := Unit) osem c) := by
  unfold Pipeline.ownSems0
  rw [by_step c (fun g => (semVal g 0 : sProp 𝕄))]
  exact (bigSep_with_persistent (fun t _ => close_step I K c t.val)).trans (bigSep_fupd _ _)

/-- The ring's protocol state on device `c` once its cells are open: what it may wait with, pay with and pass on. -/
def front : sProp 𝕄 :=
  iprop(atPos ER (barCell c) 0 ∅ 0 ∗ cred (tallyAt (barCell c) () 1) ∗ dutyTok ER (barCell (prv c)) 0 ()
    ∗ (bigSep (Finset.univ : Finset (Fin 7)) fun t => iprop(reached ER (dC c 1 t.val) 0 ∗ reached ER (dC c 3 t.val) 0))
    ∗ (bigSep (Finset.univ : Finset (Fin 7)) fun t => iprop(idle (F := F) c 0 t.val ∗ idle (F := F) c 2 t.val)))

/-- The scratch buffers, whole, at contents not chosen. -/
def scratch : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- The gathered rows' buffer as slots. -/
theorem xSlots_of : iprop(∃ f : Buf (Elt F) ((c : Thread nD τ).loc cc0_scratch0), ((c : Thread nD τ).loc cc0_scratch0) ↦{fullShare} f)
    ⊢ bigSep (Finset.univ : Finset (Fin 8)) fun k => anySlot (F := F) c xM k.val := by
  iintro ⟨%f, H⟩
  iapply (slots_of c xM f)
  rw [show xM.view.set = Finset.univ from View.set_whole cc0_scratch0]
  iexact H
/-- The partial sums' buffer as slots. -/
theorem rSlots_of : iprop(∃ f : Buf (Elt F) ((c : Thread nD τ).loc cc0_scratch1), ((c : Thread nD τ).loc cc0_scratch1) ↦{fullShare} f)
    ⊢ bigSep (Finset.univ : Finset (Fin 8)) fun k => anySlot (F := F) c rM k.val := by
  iintro ⟨%f, H⟩
  iapply (slots_of c rM f)
  rw [show rM.view.set = Finset.univ from View.set_whole cc0_scratch1]
  iexact H
/-- And back. -/
theorem xSlots_to : (bigSep (Finset.univ : Finset (Fin 8)) fun k => anySlot (F := F) c xM k.val)
    ⊢ iprop(∃ f : Buf (Elt F) ((c : Thread nD τ).loc cc0_scratch0), ((c : Thread nD τ).loc cc0_scratch0) ↦{fullShare} f) := by
  have h := slots_to (F := F) c xM
  rw [show xM.view.set = Finset.univ from View.set_whole cc0_scratch0] at h
  exact h
/-- And back. -/
theorem rSlots_to : (bigSep (Finset.univ : Finset (Fin 8)) fun k => anySlot (F := F) c rM k.val)
    ⊢ iprop(∃ f : Buf (Elt F) ((c : Thread nD τ).loc cc0_scratch1), ((c : Thread nD τ).loc cc0_scratch1) ↦{fullShare} f) := by
  have h := slots_to (F := F) c rM
  rw [show rM.view.set = Finset.univ from View.set_whole cc0_scratch1] at h
  exact h

/-- Slots are counted modulo eight. -/
theorem anySlot_congr (m : Memref sig .tc .vmem S8x256x1024 .bf16) {k k' : ℕ} (h : k % 8 = k' % 8) :
    anySlot (F := F) c m k = anySlot (F := F) c m k' := by
  unfold anySlot
  rw [slotM_congr m h]

/-- The room a device offers, and the two slots it starts with itself. -/
theorem rooms_of :
    iprop((bigSep (Finset.univ : Finset (Fin 8)) fun k => anySlot (F := F) c xM k.val)
        ∗ (bigSep (Finset.univ : Finset (Fin 8)) fun k => anySlot (F := F) c rM k.val)
        ∗ (bigSep (Finset.univ : Finset (Fin 7)) fun t => iprop(reached ER (dC c 1 t.val) 0 ∗ reached ER (dC c 3 t.val) 0)))
      ⊢ iprop((bigSep (Finset.univ : Finset (Fin 7)) fun t => room (F := F) c t.val) ∗ anySlot (F := F) c xM 0 ∗ anySlot (F := F) c rM 7) := by
  rw [eight, eight, seven, seven]
  unfold room
  iintro ⟨⟨X0, X1, X2, X3, X4, X5, X6, X7⟩, ⟨R0, R1, R2, R3, R4, R5, R6, R7⟩, ⟨⟨A0, B0⟩, ⟨A1, B1⟩, ⟨A2, B2⟩, ⟨A3, B3⟩, ⟨A4, B4⟩, ⟨A5, B5⟩, ⟨A6, B6⟩⟩⟩
  isplitl [X1 X2 X3 X4 X5 X6 X7 R0 R1 R2 R3 R4 R5 R6 A0 B0 A1 B1 A2 B2 A3 B3 A4 B4 A5 B5 A6 B6]
  · isplitl [X1 A0 R0 B0]
    · isplitl [X1 A0]
      · isplitl [X1]; · iexact X1
        iexact A0
      isplitl [R0]; · iexact R0
      iexact B0
    isplitl [X2 A1 R1 B1]
    · isplitl [X2 A1]
      · isplitl [X2]; · iexact X2
        iexact A1
      isplitl [R1]; · iexact R1
      iexact B1
    isplitl [X3 A2 R2 B2]
    · isplitl [X3 A2]
      · isplitl [X3]; · iexact X3
        iexact A2
      isplitl [R2]; · iexact R2
      iexact B2
    isplitl [X4 A3 R3 B3]
    · isplitl [X4 A3]
      · isplitl [X4]; · iexact X4
        iexact A3
      isplitl [R3]; · iexact R3
      iexact B3
    isplitl [X5 A4 R4 B4]
    · isplitl [X5 A4]
      · isplitl [X5]; · iexact X5
        iexact A4
      isplitl [R4]; · iexact R4
      iexact B4
    isplitl [X6 A5 R5 B5]
    · isplitl [X6 A5]
      · isplitl [X6]; · iexact X6
        iexact A5
      isplitl [R5]; · iexact R5
      iexact B5
    isplitl [X7 A6]
    · isplitl [X7]; · iexact X7
      iexact A6
    isplitl [R6]; · iexact R6
    iexact B6
  isplitl [X0]; · iexact X0
  iexact R7

/-- After the run every slot is back. -/
theorem slots_back :
    iprop((bigSep (Finset.univ : Finset (Fin 7)) fun t => iprop(anySlot (F := F) c xM t.val ∗ anySlot (F := F) c rM (t.val + 7)))
        ∗ anySlot (F := F) c xM 7 ∗ anySlot (F := F) c rM 6)
      ⊢ iprop((bigSep (Finset.univ : Finset (Fin 8)) fun k => anySlot (F := F) c xM k.val)
        ∗ (bigSep (Finset.univ : Finset (Fin 8)) fun k => anySlot (F := F) c rM k.val)) := by
  rw [eight, eight, seven]
  iintro ⟨⟨⟨X0, R7⟩, ⟨X1, R0⟩, ⟨X2, R1⟩, ⟨X3, R2⟩, ⟨X4, R3⟩, ⟨X5, R4⟩, ⟨X6, R5⟩⟩, X7, R6⟩
  isplitl [X0 X1 X2 X3 X4 X5 X6 X7]
  · isplitl [X0]; · iexact X0
    isplitl [X1]; · iexact X1
    isplitl [X2]; · iexact X2
    isplitl [X3]; · iexact X3
    isplitl [X4]; · iexact X4
    isplitl [X5]; · iexact X5
    isplitl [X6]; · iexact X6
    iexact X7
  isplitl [R0]; · iapply (Entails.of_eq (anySlot_congr c rM (k := ((1 : Fin 7).val + 7)) (k' := 0) rfl)) $$ R0
  isplitl [R1]; · iapply (Entails.of_eq (anySlot_congr c rM (k := ((2 : Fin 7).val + 7)) (k' := 1) rfl)) $$ R1
  isplitl [R2]; · iapply (Entails.of_eq (anySlot_congr c rM (k := ((3 : Fin 7).val + 7)) (k' := 2) rfl)) $$ R2
  isplitl [R3]; · iapply (Entails.of_eq (anySlot_congr c rM (k := ((4 : Fin 7).val + 7)) (k' := 3) rfl)) $$ R3
  isplitl [R4]; · iapply (Entails.of_eq (anySlot_congr c rM (k := ((5 : Fin 7).val + 7)) (k' := 4) rfl)) $$ R4
  isplitl [R5]; · iapply (Entails.of_eq (anySlot_congr c rM (k := ((6 : Fin 7).val + 7)) (k' := 5) rfl)) $$ R5
  isplitl [R6]; · iexact R6
  iexact R7

section
variable (a0 : Memref sig .tc .vmem S256x1024 .bf16) (a1 : Memref sig .tc .vmem S1024x1024 .bf16)
  (a2 a3 : Memref sig .tc .vmem S8x2048x128 .bf16) (a4 : Memref sig .tc .vmem S1024x1024 .bf16)
  (a5 : Memref sig .tc .vmem S256x1024 .f32)

/-- The five input blocks. -/
def blocks : sProp 𝕄 :=
  iprop(owns (c : Thread nD τ) a0 fullShare (I.x c) ∗ wins c a1 a2 a3 a4 (I.wq c) (I.k c) (I.v c) (I.wo c))

/-- What the body leaves: every counter at zero, nothing owed, the inputs as found and the result block. -/
def after : sProp 𝕄 :=
  iprop((semVal (barCell c) 0 ∗ Pipeline.ownSems0 osem c) ∗ (∃ W, owes (c : Thread nD τ) (0 : CellTallies nD τ sig Unit) W)
    ∗ scratch (F := F) c ∗ blocks I c a0 a1 a2 a3 a4 ∗ owns (c : Thread nD τ) a5 fullShare (outV I c))

/-- Closing up after the run. -/
theorem closing :
    iprop(env I K ∗ (atPos ER (barCell c) 1 ∅ 0 ∗ due (F := F) c []) ∗ atDesk I c a0 a1 a2 a3 a4 ∗ owns (c : Thread nD τ) a5 fullShare (outV I c)
        ∗ (bigSep (Finset.univ : Finset (Fin 7)) fun t => done (F := F) c t.val) ∗ anySlot (F := F) c xM 7 ∗ anySlot (F := F) c rM 6)
      ⊢ iprop(|={Set.univ}=> after I c a0 a1 a2 a3 a4 a5) := by
  unfold done
  rw [bigSep_sep']
  unfold after blocks scratch atDesk desk due
  iintro ⟨#He, ⟨Hb, HO⟩, ⟨H0, Hw, ⟨%q, Hq⟩⟩, H5, ⟨Hc, Hs⟩, HX, HR⟩
  ihave #Ib := (env_bar I K c) $$ He
  imod (close_cell I (barCell c) (K (barCell c))) $$ [Hb] with Hb
  · isplitr; · iexact Ib
    iexact Hb
  imod (close_cells I K c) $$ [Hc] with Hc
  · isplitr; · iexact He
    iexact Hc
  ihave Hs := (slots_back c) $$ [Hs HX HR]
  · isplitl [Hs]; · iexact Hs
    isplitl [HX]; · iexact HX
    iexact HR
  icases Hs with ⟨HX, HR⟩
  imodintro
  isplitl [Hb Hc]
  · isplitl [Hb]; · iexact Hb
    iexact Hc
  isplitl [HO]; · iexact HO
  isplitl [HX HR Hq]
  · isplitl [HX]; · iapply (xSlots_to c) $$ HX
    isplitl [HR]; · iapply (rSlots_to c) $$ HR
    iexists q
    iapply (Entails.of_eq (owns_whole (c : Thread nD τ) cc0_scratch2 fullShare q)) $$ Hq
  isplitl [H0 Hw]
  · isplitl [H0]; · iexact H0
    iexact Hw
  iexact H5

/-- The body's run with the closing up still to be done. -/
theorem body_spec' :
    iprop(env I K ∗ front (F := F) c ∗ (∃ W, owes (c : Thread nD τ) (O₀ c) W) ∗ scratch (F := F) c ∗ blocks I c a0 a1 a2 a3 a4
        ∗ (∃ o, owns (c : Thread nD τ) a5 fullShare o))
      ⊢ wp frame (wpE (defs₀ (F := F)) 𝒱₀ c none) Set.univ (kern a0 a1 a2 a3 a4 a5) (fun _ => iprop(|={Set.univ}=> after I c a0 a1 a2 a3 a4 a5)) := by
  unfold front scratch blocks
  iintro ⟨#He, ⟨Hat, Hcr, Htk, Hre, Hid⟩, HO, ⟨HX, HR, ⟨%q, Hq⟩⟩, ⟨H0, Hw⟩, H5⟩
  ihave HX := (xSlots_of c) $$ HX
  ihave HR := (rSlots_of c) $$ HR
  ihave Hr := (rooms_of c) $$ [HX HR Hre]
  · isplitl [HX]; · iexact HX
    isplitl [HR]; · iexact HR
    iexact Hre
  icases Hr with ⟨Hroom, HX, HR⟩
  iapply (kern_spec I K c a0 a1 a2 a3 a4 a5 _) $$ [Hat Hcr Htk Hid HO Hq H0 Hw H5 Hroom HX HR]
  · isplitr; · iexact He
    isplitl [Hat Hcr Htk Hid HO Hroom]
    · unfold before
      isplitl [Hat]; · iexact Hat
      isplitl [Hcr]; · iexact Hcr
      isplitl [Htk]; · iexact Htk
      isplitl [Hroom]; · iexact Hroom
      isplitl [Hid]; · iexact Hid
      iexact HO
    isplitl [H0 Hw Hq]
    · unfold atDesk desk
      isplitl [H0]; · iexact H0
      isplitl [Hw]; · iexact Hw
      iexists q
      iapply (Entails.of_eq (owns_whole (c : Thread nD τ) cc0_scratch2 fullShare q).symm) $$ Hq
    isplitl [H5]; · iexact H5
    isplitl [HX]; · iexact HX
    iexact HR
  iintro H
  iapply (closing I K c a0 a1 a2 a3 a4 a5)
  isplitr; · iexact He
  iexact H

/-- The body on device `c`, from its opened cells and whole scratch buffers to its closed cells and whole scratch buffers. -/
theorem body_spec :
    iprop(env I K ∗ front (F := F) c ∗ (∃ W, owes (c : Thread nD τ) (O₀ c) W) ∗ scratch (F := F) c ∗ blocks I c a0 a1 a2 a3 a4
        ∗ (∃ o, owns (c : Thread nD τ) a5 fullShare o))
      ⊢ wp frame (wpE (defs₀ (F := F)) 𝒱₀ c none) Set.univ (kern a0 a1 a2 a3 a4 a5) (fun _ => after I c a0 a1 a2 a3 a4 a5) :=
  BI.Entails.trans (body_spec' I K c a0 a1 a2 a3 a4 a5) (wp_fupd _ _ _ _ _)

end

end Cert.Proof

end
-- ==== Proof.Region.lean ====
/- The kernel region: what the pipeline fetches, the body's obligation, and the region's record. -/
module

public import proofs.«01_k».proof.Proof.Cells
public import proofs.«01_k».proof.Proof.Gen.KernelIdeal.Points
public import proofs.«01_k».proof.Proof.Gen.KernelIdeal.Regions
public import Idealize.ShloMosaic.Lib.Pipeline.RegionTalk

@[expose] public section

noncomputable section

namespace Cert.Proof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

open Idealize.ShloMosaic.Pipeline (Dat BodyObligation)

variable (m : (ℓ : Loc nD τ sig) → Buf (Elt F) ℓ)

/-- A window's block on device `c` as the region finds it. -/
abbrev fetched (c : Dev nD) (w : Fin cfg0.W) : ((cfg0.win w).xblock (cfg0.grid.coords t0_0)).Idx → Elt F (cfg0.win w).elt :=
  ((cfg0.win w).blk t0_0).view.read (Elt F) (V1 m c (Proc.devRef .tc (Pipeline.arrRef spec0 w)))

/-- What the kernel reads, device by device. -/
def insOf : Ins F where
  x c := fetched m c 0
  wq c := fetched m c 1
  k c := fetched m c 2
  v c := fetched m c 3
  wo c := fetched m c 4

/-- What the launch gives device `c` for the ring, before its own cells are open. -/
def launched (c : Dev nD) : sProp 𝕄 :=
  iprop(atPos ER (barCell c) 0 ∅ 0 ∗ dutyTok ER (barCell (prv c)) 0 ()
    ∗ (bigSep (Finset.univ : Finset (Fin 7 × Fin 4)) fun p => openTok ER ((c : Thread nD τ), osem p))
    ∗ (bigSep (Finset.univ : Finset (Fin 7)) fun t =>
        iprop((dutyTok ER (dC c 0 t.val) 0 () ∗ dutyTok ER (dC (nxt c) 1 t.val) 0 ())
          ∗ (dutyTok ER (dC c 2 t.val) 0 () ∗ dutyTok ER (dC (nxt c) 3 t.val) 0 ()))))

/-- The credit the launch gives device `c`: one signal, and each arrival. -/
def credits (c : Dev nD) : sProp 𝕄 :=
  iprop(cred (tallyAt (barCell c) () 1)
    ∗ (bigSep (Finset.univ : Finset (Fin 7)) fun t => iprop(cred (tallyAt (dC c 1 t.val) () N) ∗ cred (tallyAt (dC c 3 t.val) () N))))

/-- The records every device shares. -/
def shared : sProp 𝕄 :=
  iprop(∃ K : GSem nD τ sig → ℕ, (bigSep (barCells ∪ scCells) fun g => cellInv ER (Rd (insOf m)) (K g) g) ∗ (bigSep barCells fun g => reached ER g 0))

/-- What device `c` keeps up to the region. -/
def Tk (c : Dev nD) : sProp 𝕄 := iprop(shared m ∗ launched (F := F) c ∗ credits (F := F) c)
/-- The same with its cells open. -/
def Xk (c : Dev nD) : sProp 𝕄 := iprop(∃ K, env (insOf m) K ∗ front (F := F) c)
/-- What it keeps after the region. -/
def Yk (c : Dev nD) : sProp 𝕄 := semVal (barCell c) 0

/-- One step's state, gathered. -/
theorem idle_of (c : Dev nD) (t : ℕ) :
    iprop((opened (F := F) (dC c 0 t) ∗ opened (F := F) (dC c 1 t) ∗ opened (F := F) (dC c 2 t) ∗ opened (F := F) (dC c 3 t))
        ∗ ((dutyTok ER (dC c 0 t) 0 () ∗ dutyTok ER (dC (nxt c) 1 t) 0 ()) ∗ (dutyTok ER (dC c 2 t) 0 () ∗ dutyTok ER (dC (nxt c) 3 t) 0 ()))
        ∗ (cred (tallyAt (dC c 1 t) () N) ∗ cred (tallyAt (dC c 3 t) () N)))
      ⊢ (iprop((reached ER (dC c 1 t) 0 ∗ reached ER (dC c 3 t) 0) ∗ (idle (F := F) c 0 t ∗ idle (F := F) c 2 t)) : sProp 𝕄) := by
  unfold idle opened tok
  iintro ⟨⟨⟨A0, #R0⟩, ⟨A1, #R1⟩, ⟨A2, #R2⟩, A3, #R3⟩, ⟨⟨T0, T1⟩, T2, T3⟩, C1, C3⟩
  isplitr
  · isplitr; · iexact R1
    iexact R3
  isplitl [A0 A1 T0 T1 C1]
  · isplitl [A0]; · iexact A0
    isplitl [A1]; · iexact A1
    isplitl [C1]; · iexact C1
    isplitl [T0]; · iexact T0
    isplitr; · iexact R0
    iexact T1
  isplitl [A2]; · iexact A2
  isplitl [A3]; · iexact A3
  isplitl [C3]; · iexact C3
  isplitl [T2]; · iexact T2
  isplitr; · iexact R2
  iexact T3

/-- All steps' states, gathered. -/
theorem idles_of (c : Dev nD) :
    iprop((bigSep (Finset.univ : Finset (Fin 7)) fun t =>
          iprop(opened (F := F) (dC c 0 t.val) ∗ opened (F := F) (dC c 1 t.val) ∗ opened (F := F) (dC c 2 t.val) ∗ opened (F := F) (dC c 3 t.val)))
        ∗ (bigSep (Finset.univ : Finset (Fin 7)) fun t =>
          iprop((dutyTok ER (dC c 0 t.val) 0 () ∗ dutyTok ER (dC (nxt c) 1 t.val) 0 ())
            ∗ (dutyTok ER (dC c 2 t.val) 0 () ∗ dutyTok ER (dC (nxt c) 3 t.val) 0 ())))
        ∗ (bigSep (Finset.univ : Finset (Fin 7)) fun t => iprop(cred (tallyAt (dC c 1 t.val) () N) ∗ cred (tallyAt (dC c 3 t.val) () N))))
      ⊢ (iprop((bigSep (Finset.univ : Finset (Fin 7)) fun t => iprop(reached ER (dC c 1 t.val) 0 ∗ reached ER (dC c 3 t.val) 0))
        ∗ (bigSep (Finset.univ : Finset (Fin 7)) fun t => iprop(idle (F := F) c 0 t.val ∗ idle (F := F) c 2 t.val))) : sProp 𝕄) := by
  rw [← bigSep_sep', ← bigSep_sep', ← bigSep_sep']
  exact bigSep_mono fun t _ => idle_of c t.val

/-- Entering the region opens the device's cells. -/
theorem open_region (c : Dev nD) : iprop(Tk m c ∗ Pipeline.ownSems0 osem c ∗ levAts L lv) ⊢ (|={Set.univ}=> Xk m c : sProp 𝕄) := by
  unfold Tk Xk shared launched credits front
  iintro ⟨⟨⟨%K, #HI, #HR⟩, ⟨Hat, Htk, Hop, Hd⟩, ⟨Hcb, Hcd⟩⟩, Hos, #Hl⟩
  ihave #He : env (insOf m) K $$ []
  · unfold env
    isplitr; · iexact HI
    isplitr; · iexact HR
    iexact Hl
  imod (open_cells (insOf m) K c) $$ [Hop Hos] with Ho
  · isplitr; · iexact He
    isplitl [Hop]; · iexact Hop
    iexact Hos
  ihave H := (idles_of c) $$ [Ho Hd Hcd]
  · isplitl [Ho]; · iexact Ho
    isplitl [Hd]; · iexact Hd
    iexact Hcd
  icases H with ⟨Hr, Hi⟩
  imodintro
  iexists K
  isplitr; · iexact He
  isplitl [Hat]; · iexact Hat
  isplitl [Hcb]; · iexact Hcb
  isplitl [Htk]; · iexact Htk
  isplitl [Hr]; · iexact Hr
  iexact Hi

/-- The region's proof data: the arrays as the host stretch leaves them; after the body the inputs as fetched and the
    result block; the ring's state before, its counters after; the debt before, none after. -/
def dat0 (c : Dev nD) : Dat τ (Elt F) Unit ℕ UU ℕ cfg0 c where
  A w := V1 m c (Proc.devRef .tc (Pipeline.arrRef spec0 w))
  after w _ := match w with
    | ⟨0, _⟩ => fetched m c 0
    | ⟨1, _⟩ => fetched m c 1
    | ⟨2, _⟩ => fetched m c 2
    | ⟨3, _⟩ => fetched m c 3
    | ⟨4, _⟩ => fetched m c 4
    | ⟨5, _⟩ => outV (insOf m) c
  Φ t := if t.val = 0 then iprop(scratch (F := F) c ∗ (∃ r, prngReg c r) ∗ Xk m c)
    else iprop(scratch (F := F) c ∗ (∃ r, prngReg c r) ∗ Pipeline.ownSems0 osem c ∗ Yk (F := F) c)
  q _ := fullShare
  owed t := if t.val = 0 then O₀ c else 0

/-- The record of each region of the program: there is one. -/
def pdats : (p : Fin 1) → (c : Dev nD) → Dat τ (Elt F) Unit ℕ UU ℕ (Pipeline.pin (pcfgs (F := F)) adm p) c
  | 0 => dat0 m

/-- Before the body the first buffer holds the rows, -/
theorem before_0 (c : Dev nD) (d) : (dat0 m c).before 0 t0_0 d = (insOf m).x c := by
  unfold Dat.before; rw [if_pos (fetch0_0 t0_0)]; rfl
/-- the second the query weights, -/
theorem before_1 (c : Dev nD) (d) : (dat0 m c).before 1 t0_0 d = (insOf m).wq c := by
  unfold Dat.before; rw [if_pos (fetch0_1 t0_0)]; rfl
/-- the third the keys, -/
theorem before_2 (c : Dev nD) (d) : (dat0 m c).before 2 t0_0 d = (insOf m).k c := by
  unfold Dat.before; rw [if_pos (fetch0_2 t0_0)]; rfl
/-- the fourth the values, -/
theorem before_3 (c : Dev nD) (d) : (dat0 m c).before 3 t0_0 d = (insOf m).v c := by
  unfold Dat.before; rw [if_pos (fetch0_3 t0_0)]; rfl
/-- and the fifth the output weights. -/
theorem before_4 (c : Dev nD) (d) : (dat0 m c).before 4 t0_0 d = (insOf m).wo c := by
  unfold Dat.before; rw [if_pos (fetch0_4 t0_0)]; rfl

/-- Before the body a device owes what it owes at launch, -/
theorem owed_first (c : Dev nD) : (dat0 m c).owed t0_0.castSucc = O₀ c := by
  show (if (t0_0.castSucc : Fin (cfg0.N + 1)).val = 0 then O₀ c else 0) = O₀ c; exact if_pos rfl
/-- and after it nothing. -/
theorem owed_last (c : Dev nD) : (dat0 m c).owed t0_0.succ = 0 := by
  show (if (t0_0.succ : Fin (cfg0.N + 1)).val = 0 then O₀ c else 0) = 0; exact if_neg (Nat.succ_ne_zero _)

/-- What a device owes, put as the pipeline has it, -/
theorem owesAt_of (c : Dev nD) (t : Fin (cfg0.N + 1)) (O : CellTallies nD τ sig Unit) (h : (dat0 m c).owed t = O) (W : Waits sig Unit) :
    (owes (c : Thread nD τ) O W : sProp 𝕄) ⊢ ((dat0 m c).owesAt () t : sProp 𝕄) := by
  unfold Dat.owesAt Pipeline.owesWithin Dat.bound
  rw [h]
  iintro HO
  iexists W
  isplitr
  · ipureintro; exact fun _ _ => Or.inl trivial
  iexact HO
/-- and taken back. -/
theorem owesAt_to (c : Dev nD) (t : Fin (cfg0.N + 1)) (O : CellTallies nD τ sig Unit) (h : (dat0 m c).owed t = O) :
    ((dat0 m c).owesAt () t : sProp 𝕄) ⊢ iprop(∃ W, owes (c : Thread nD τ) O W) := by
  unfold Dat.owesAt Pipeline.owesWithin
  rw [h]
  iintro ⟨%W, -, HO⟩
  iexists W
  iexact HO

/-- The body's run between the invariant before and the invariant after. -/
theorem body_run (c : Dev nD) (a0 : Memref sig .tc .vmem S256x1024 .bf16) (a1 : Memref sig .tc .vmem S1024x1024 .bf16)
    (a2 a3 : Memref sig .tc .vmem S8x2048x128 .bf16) (a4 : Memref sig .tc .vmem S1024x1024 .bf16)
    (a5 : Memref sig .tc .vmem S256x1024 .f32) (Q : PUnit → sProp 𝕄) :
    iprop((scratch (F := F) c ∗ (∃ r, prngReg c r) ∗ Xk m c) ∗ (∃ W, owes (c : Thread nD τ) (O₀ c) W)
        ∗ blocks (insOf m) c a0 a1 a2 a3 a4 ∗ (∃ o, owns (c : Thread nD τ) a5 fullShare o))
      ⊢ ((iprop((scratch (F := F) c ∗ (∃ r, prngReg c r) ∗ Pipeline.ownSems0 osem c ∗ Yk (F := F) c)
            ∗ (∃ W, owes (c : Thread nD τ) (0 : CellTallies nD τ sig Unit) W)
            ∗ blocks (insOf m) c a0 a1 a2 a3 a4 ∗ owns (c : Thread nD τ) a5 fullShare (outV (insOf m) c)) -∗ Q ⟨⟩)
        -∗ wp frame (wpE (defs₀ (F := F)) 𝒱₀ c none) Set.univ (kern a0 a1 a2 a3 a4 a5) Q) := by
  unfold Xk Yk
  iintro ⟨⟨Hs, Hp, ⟨%K, #He, Hf⟩⟩, HO, Hb, H5⟩ Hk
  iapply (wp_wand_r frame (wpE (defs₀ (F := F)) 𝒱₀ c none) Set.univ (Q := fun _ => after (insOf m) c a0 a1 a2 a3 a4 a5))
  isplitl [Hs Hf HO Hb H5]
  · iapply (body_spec (insOf m) K c a0 a1 a2 a3 a4 a5)
    isplitr; · iexact He
    isplitl [Hf]; · iexact Hf
    isplitl [HO]; · iexact HO
    isplitl [Hs]; · iexact Hs
    isplitl [Hb]; · iexact Hb
    iexact H5
  iintro %u H
  unfold after
  icases H with ⟨⟨Hb0, Ho⟩, HO, Hs, Hb, H5⟩
  iapply Hk
  isplitl [Hs Hp Ho Hb0]
  · isplitl [Hs]; · iexact Hs
    isplitl [Hp]; · iexact Hp
    isplitl [Ho]; · iexact Ho
    iexact Hb0
  isplitl [HO]; · iexact HO
  isplitl [Hb]; · iexact Hb
  iexact H5

/-- The pipeline's obligation for the body on core `c`. -/
theorem body_obligation (c : Dev nD) : BodyObligation (dat0 m c) (defs₀ (F := F)) 𝒱₀ () Set.univ := fun t => by
  obtain rfl := fin_N0 t
  rw [bigSep_W0, bigSep_W0]
  rw [show (dat0 m c).Φ t0_0.castSucc = iprop(scratch (F := F) c ∗ (∃ r, prngReg c r) ∗ Xk m c) from rfl,
    show (dat0 m c).Φ t0_0.succ = iprop(scratch (F := F) c ∗ (∃ r, prngReg c r) ∗ Pipeline.ownSems0 osem c ∗ Yk (F := F) c) from rfl]
  rw [show defs₀ (F := F) .tc cfg0.body (cfg0.bodyArgs t0_0 (cfg0.slots t0_0)) = kern (st0_0 t0_0) (st0_1 t0_0) (st0_2 t0_0) (st0_3 t0_0) (st0_4 t0_0) (st0_5 t0_0) from
    body_eq _ _ _ _ _ _ (hstage0_0 0) (hstage0_1 0) (hstage0_2 0) (hstage0_3 0) (hstage0_4 0) (hstage0_5 0)]
  simp only [before_0, before_1, before_2, before_3, before_4]
  iintro ⟨HΦ, HO, ⟨%d0, H0⟩, ⟨%d1, H1⟩, ⟨%d2, H2⟩, ⟨%d3, H3⟩, ⟨%d4, H4⟩, ⟨%d5, H5⟩⟩
  ihave HO := (owesAt_to m c t0_0.castSucc (O₀ c) (owed_first m c)) $$ HO
  iapply (body_run m c (st0_0 t0_0) (st0_1 t0_0) (st0_2 t0_0) (st0_3 t0_0) (st0_4 t0_0) (st0_5 t0_0) _) $$ [HΦ HO H0 H1 H2 H3 H4 H5]
  · isplitl [HΦ]; · iexact HΦ
    isplitl [HO]; · iexact HO
    isplitl [H0 H1 H2 H3 H4]
    · unfold blocks wins
      isplitl [H0]; · iexact H0
      isplitl [H1]; · iexact H1
      isplitl [H2]; · iexact H2
      isplitl [H3]; · iexact H3
      iexact H4
    iexists _
    iexact H5
  unfold blocks wins
  iintro ⟨HΦ, ⟨%W, HO⟩, ⟨H0, H1, H2, H3, H4⟩, H5⟩
  isplitl [HΦ]; · iexact HΦ
  isplitl [HO]; · iapply (owesAt_of m c t0_0.succ 0 (owed_last m c) W); iexact HO
  isplitl [H0]; · iexact H0
  isplitl [H1]; · iexact H1
  isplitl [H2]; · iexact H2
  isplitl [H3]; · iexact H3
  isplitl [H4]; · iexact H4
  iexact H5

/-- What the pipeline leaves in the result's array. -/
abbrev outsOf : Outs (F := F) := fun _ r c => if h : r = main_v25 then h ▸ (dat0 m c).arrAt 5 cfg0.N else V1 m c r

end Cert.Proof

end
-- ==== Proof.Deal.lean ====
/- What the launch deals: the credit of every wait, and every cell's token to the device that pays it. -/
module

public import proofs.«01_k».proof.Proof.Region

@[expose] public section

noncomputable section

namespace Cert.Proof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

/-! ## The credit -/

/-- What device `d` owes a copy's cell of device `c`. -/
theorem owe_at (d c : Dev nD) (j t : ℕ) (l : List (ℕ × ℕ)) :
    owe d l (dC c j t) () = if d = prv c then N * (l.countP fun p => decide (dSem p.1 p.2 = dSem j t)) else 0 := by
  have hd : nxt d = c ↔ d = prv c := ⟨fun h => by rw [← h, prv_nxt], fun h => by rw [h, nxt_prv]⟩
  induction l with
  | nil => show (0 : ℕ) = _; rw [List.countP_nil, Nat.mul_zero, ite_self]
  | cons p l ih =>
    rw [owe, Pi.add_apply, Finsupp.add_apply, ih, tallyAt_apply, List.countP_cons]
    by_cases h : d = prv c
    · rw [if_pos h, if_pos h]
      by_cases hs : dSem p.1 p.2 = dSem j t
      · rw [if_pos ⟨by show ((c : Thread nD τ), _) = ((nxt d : Thread nD τ), _); rw [hd.mpr h, hs], rfl⟩, if_pos (decide_eq_true hs), Nat.mul_add, Nat.mul_one]
      · rw [if_neg (fun e => hs (by
            have e2 : (SemLoc.dma (dSem j t) : SemLoc sig) = .dma (dSem p.1 p.2) := congrArg Prod.snd e.1
            exact (SemLoc.dma.inj e2).symm)), if_neg (by simpa using hs), Nat.add_zero, Nat.add_zero]
    · rw [if_neg h, if_neg h, if_neg (fun e => h (hd.mp (by
        have e1 : c = nxt d := congrArg (fun g : GSem nD τ sig => g.1.1) e.1
        exact e1.symm)))]

/-- Every arrival is owed once. -/
theorem owed_once : ∀ t : Fin 7, (allOwed.countP fun p => decide (dSem p.1 p.2 = dSem 1 t.val)) = 1
    ∧ (allOwed.countP fun p => decide (dSem p.1 p.2 = dSem 3 t.val)) = 1 := by decide

/-- At launch an arrival is owed by the left neighbour, once. -/
theorem owed_dma (d c : Dev nD) (j t : ℕ) (h : (allOwed.countP fun p => decide (dSem p.1 p.2 = dSem j t)) = 1) :
    O₀ d (dC c j t) () = if d = prv c then N else 0 := by
  unfold O₀
  rw [Pi.add_apply, Finsupp.add_apply, owe_at, h, Nat.mul_one, tallyAt_ne_cell (fun e => by cases congrArg Prod.snd e), Finsupp.zero_apply, Nat.add_zero]

/-- The arrivals are not the barrier's. -/
theorem owe_bar (d c : Dev nD) (l : List (ℕ × ℕ)) : owe d l (barCell c) () = 0 := by
  by_contra h
  obtain ⟨p, -, e⟩ := owe_pos (Nat.pos_of_ne_zero h)
  cases congrArg Prod.snd e

/-- At launch a barrier's unit is owed by the right neighbour. -/
theorem owed_bar (d c : Dev nD) : O₀ d (barCell c) () = if d = nxt c then 1 else 0 := by
  unfold O₀
  rw [Pi.add_apply, Finsupp.add_apply, owe_bar, Nat.zero_add, tallyAt_apply]
  by_cases h : d = nxt c
  · rw [if_pos h, if_pos ⟨by rw [h, prv_nxt], rfl⟩]
  · rw [if_neg h, if_neg (fun e => h (by
      have e1 : c = prv d := congrArg (fun g : GSem nD τ sig => g.1.1) e.1
      rw [e1, nxt_prv]))]

/-- The launch's credit on the barrier cell: one signal. -/
theorem credit_bar (c : Dev nD) :
    tallyOn (barCell c) (launchCredit (Pipeline.owing O₀) 0 (barCell c)) = (tallyAt (barCell c) () 1 : CellTallies nD τ sig Unit) := by
  unfold tallyAt
  refine congrArg _ (Finsupp.ext fun u => ?_)
  cases u
  rw [Pipeline.launchCredit_owing, Finsupp.single_eq_same, Finset.sum_congr rfl fun d _ => owed_bar d c,
    Finset.sum_ite_eq' Finset.univ (nxt c) fun _ => 1, if_pos (Finset.mem_univ _)]

/-- The launch's credit on an arrival's cell: one slot's bytes. -/
theorem credit_dma (c : Dev nD) (j t : ℕ) (h : (allOwed.countP fun p => decide (dSem p.1 p.2 = dSem j t)) = 1) :
    tallyOn (dC c j t) (launchCredit (Pipeline.owing O₀) 0 (dC c j t)) = (tallyAt (dC c j t) () N : CellTallies nD τ sig Unit) := by
  unfold tallyAt
  refine congrArg _ (Finsupp.ext fun u => ?_)
  cases u
  rw [Pipeline.launchCredit_owing, Finsupp.single_eq_same, Finset.sum_congr rfl fun d _ => owed_dma d c j t h,
    Finset.sum_ite_eq' Finset.univ (prv c) fun _ => N, if_pos (Finset.mem_univ _)]

/-- Of four kinds, the arrivals. -/
theorem drop_sent (A B C D : sProp 𝕄) : iprop(A ∗ B ∗ C ∗ D) ⊢ iprop(B ∗ D) := by
  iintro ⟨-, HB, -, HD⟩
  isplitl [HB]; · iexact HB
  iexact HD

/-- A device's launch credit holds all its waits use. -/
theorem credits_of (c : Dev nD) : (Pipeline.launchCred O₀ c : sProp 𝕄) ⊢ credits (F := F) c := by
  have hsub : (Finset.univ : Finset (Fin 7 × Fin 4)).map ⟨osem, osem_inj⟩ ⊆ (Finset.univ : Finset (SemLoc sig)).erase (SemLoc.reg barS) := fun s hs => by
    obtain ⟨p, -, rfl⟩ := Finset.mem_map.mp hs
    exact Finset.mem_erase.mpr ⟨(fun h => by cases h), Finset.mem_univ _⟩
  unfold Pipeline.launchCred credits
  rw [bigSep_univ_at _ (SemLoc.reg barS), credit_bar]
  refine sep_mono_right ((bigSep_subset hsub).trans ?_)
  rw [bigSep_map]
  refine (Entails.of_eq (by_step c (fun g => (cred (tallyOn g (launchCredit (Pipeline.owing O₀) 0 g)) : sProp 𝕄)))).trans ?_
  refine bigSep_mono fun t _ => ?_
  rw [credit_dma c 1 t.val (owed_once t).1, credit_dma c 3 t.val (owed_once t).2]
  exact drop_sent _ _ _ _

/-! ## The tokens -/

/-- Every cell's one duty. -/
def ringToks : Finset (GSem nD τ sig × ℕ × Unit) := (barCells ∪ scCells).map ⟨fun g => (g, 0, ()), fun _ _ h => congrArg Prod.fst h⟩

/-- A barrier cell is no copy's cell. -/
theorem disjoint_cells : Disjoint (barCells : Finset (GSem nD τ sig)) scCells := by
  rw [Finset.disjoint_left]
  intro g h1 h2
  obtain ⟨c, -, e1⟩ := Finset.mem_map.mp h1
  obtain ⟨ck, -, e2⟩ := Finset.mem_map.mp h2
  cases congrArg Prod.snd (e1.trans e2.symm)

/-- A family over the copies' cells, device by device and step by step. -/
theorem by_device {M : Type} [URA M] (Φ : GSem nD τ sig → sProp M) :
    bigSep scCells Φ = bigSep (Finset.univ : Finset (Dev nD)) fun c => bigSep (Finset.univ : Finset (Fin 7 × Fin 4)) fun p => Φ ((c : Thread nD τ), osem p) := by
  rw [bigSep_map, bigSep_univ_prod]
  rfl

/-- Regrouping. -/
theorem regroup {M : Type} [URA M] (A B C : sProp M) : iprop((A ∗ B) ∗ C) = iprop(A ∗ B ∗ C) :=
  BI.equiv_iff.mp ⟨BI.sep_assoc, BI.sep_assoc'⟩

/-- The tokens, dealt so that each device holds those of the duties it pays. -/
theorem toks_dealt : bigSep ringToks (fun x => (dutyTok ER x.1 x.2.1 x.2.2 : sProp 𝕄))
    ⊢ bigSep (Finset.univ : Finset (Dev nD)) fun c => iprop(dutyTok ER (barCell (prv c)) 0 ()
      ∗ (bigSep (Finset.univ : Finset (Fin 7)) fun t =>
        iprop((dutyTok ER (dC c 0 t.val) 0 () ∗ dutyTok ER (dC (nxt c) 1 t.val) 0 ())
          ∗ (dutyTok ER (dC c 2 t.val) 0 () ∗ dutyTok ER (dC (nxt c) 3 t.val) 0 ())))) := by
  unfold ringToks
  rw [bigSep_map, bigSep_union disjoint_cells, bigSep_map, by_device]
  refine Entails.of_eq ?_
  have e : (fun c : Dev nD => bigSep (Finset.univ : Finset (Fin 7 × Fin 4)) fun p => (dutyTok ER ((c : Thread nD τ), osem p) 0 () : sProp 𝕄))
      = fun c => bigSep (Finset.univ : Finset (Fin 7)) fun t => iprop(dutyTok ER (dC c 0 t.val) 0 () ∗ dutyTok ER (dC c 1 t.val) 0 ()
          ∗ dutyTok ER (dC c 2 t.val) 0 () ∗ dutyTok ER (dC c 3 t.val) 0 ()) :=
    funext fun c => by_step c fun g => (dutyTok ER g 0 () : sProp 𝕄)
  refine (congrArg₂ _ (bigSep_univ_equiv ring.symm fun c : Dev nD => (dutyTok ER (barCell c) 0 () : sProp 𝕄)) (congrArg _ e)).trans ?_
  simp only [bigSep_sep', regroup]
  rw [bigSep_univ_equiv ring fun c : Dev nD => bigSep (Finset.univ : Finset (Fin 7)) fun t => (dutyTok ER (dC c 1 t.val) 0 () : sProp 𝕄),
    bigSep_univ_equiv ring fun c : Dev nD => bigSep (Finset.univ : Finset (Fin 7)) fun t => (dutyTok ER (dC c 3 t.val) 0 () : sProp 𝕄)]
  rfl

end Cert.Proof

end
-- ==== Proof.Launch.lean ====
/- The launch and the whole run, at any floating-point values. -/
module

public import proofs.«01_k».proof.Proof.Deal

@[expose] public section

noncomputable section

namespace Cert.Proof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

variable (m : (ℓ : Loc nD τ sig) → Buf (Elt F) ℓ)

/-! ## The region's record -/

/-- The buffers that are no window's array. -/
abbrev others : Finset (DevRef τ sig) := Pipeline.ucRefs τ sig \ Pipeline.arrRefs (τ := τ) spec0

/-- The region's arrays are buffers of the program. -/
theorem arrs_sub : Pipeline.arrRefs (τ := τ) spec0 ⊆ Pipeline.ucRefs τ sig := by decide

/-- The result's buffer is one of them. -/
theorem out_mem : (Proc.devRef .tc main_v25 : DevRef τ sig) ∈ Pipeline.arrRefs (τ := τ) spec0 := by decide

/-- The region leaves in it what the pipeline wrote. -/
theorem outsOf_eq (c : Dev nD) : outsOf m 2 main_v25 c = (dat0 m c).arrAt 5 cfg0.N := dif_pos rfl

/-- What the region leaves, buffer by buffer. -/
theorem arr_after (c : Dev nD) : ∀ w : Fin cfg0.W, (dat0 m c).arrAt w cfg0.N = V2 m (outsOf m) c (Proc.devRef .tc (Pipeline.arrRef spec0 w))
  | 0 => ((dat0 m c).arrAt_in 0 rfl _).trans (V2_of m (outsOf m) c main_v22 (by decide)).symm
  | 1 => ((dat0 m c).arrAt_in 1 rfl _).trans (V2_of m (outsOf m) c main_v23 (by decide)).symm
  | 2 => ((dat0 m c).arrAt_in 2 rfl _).trans (V2_of m (outsOf m) c main_v18 (by decide)).symm
  | 3 => ((dat0 m c).arrAt_in 3 rfl _).trans (V2_of m (outsOf m) c main_v20 (by decide)).symm
  | 4 => ((dat0 m c).arrAt_in 4 rfl _).trans (V2_of m (outsOf m) c main_v24 (by decide)).symm
  | 5 => by
    show _ = Function.update (V1 m c) (Proc.devRef .tc main_v25) (outsOf m 2 main_v25 c) (Proc.devRef .tc main_v25)
    rw [Function.update_self, outsOf_eq]
  | ⟨_ + 6, h⟩ => absurd h (Nat.not_lt.2 (Nat.le_add_left _ _))

/-- Everything owed stands above the staging cells in the order of waits. -/
theorem owed_above (c : Dev nD) (t : Fin (cfg0.N + 1)) (g : GSem nD τ sig) (i : Unit) (h : 0 < (dat0 m c).owed t g i) :
    i ∈ L g ∧ (0 : ℕ) < lv g i := by
  have e : (dat0 m c).owed t = if t.val = 0 then O₀ c else 0 := rfl
  rw [e] at h
  split at h
  · unfold O₀ at h
    rw [Pi.add_apply, Finsupp.add_apply] at h
    rcases Nat.add_pos_iff_pos_or_pos.mp h with h | h
    · obtain ⟨p, hp, rfl⟩ := owe_pos h
      rw [L_tc, lv_dC]
      exact ⟨Finset.mem_singleton_self _, (show ∀ p ∈ allOwed, 0 < lvOf (p.1 % 4) (p.2 % 7) by decide) p hp⟩
    · rw [tallyAt_apply] at h
      split at h
      · next hg =>
        rw [hg.1, L_tc]
        exact ⟨Finset.mem_singleton_self _, Nat.one_pos⟩
      · exact absurd h (Nat.lt_irrefl 0)
  · exact absurd h (Nat.lt_irrefl 0)

/-- The staging semaphores come before the ring's. -/
theorem stage_low : ∀ (w : Fin cfg0.W) (s : Fin (cfg0.win w).nbuf), ((cfg0.win w).sem s).val < 6 := by decide

/-- What the region gets at its start makes up the invariant before the body. -/
theorem enter_inv (c : Dev nD) :
    iprop(Pipeline.scopedRest spec0 c ∗ (∃ r, prngReg c r) ∗ StableHlo.held (c : Thread nD τ) ∅ (V1 m c) ∗ Xk m c) ⊢ (dat0 m c).Φ 0 := by
  rw [show (dat0 m c).Φ 0 = iprop(scratch (F := F) c ∗ (∃ r, prngReg c r) ∗ Xk m c) from rfl, scopedRest0_eq]
  unfold scratch
  iintro ⟨Hs, Hp, -, HX⟩
  isplitl [Hs]; · iexact Hs
  isplitl [Hp]; · iexact Hp
  iexact HX

/-- The invariant after the body gives back what the region must. -/
theorem leave_inv (c : Dev nD) :
    (dat0 m c).Φ (Fin.last cfg0.N)
      ⊢ iprop(Pipeline.scopedRest spec0 c ∗ (∃ r, prngReg c r) ∗ StableHlo.held (c : Thread nD τ) ∅ (V2 m (outsOf m) c)
        ∗ Pipeline.ownSems0 osem c ∗ Yk (F := F) c) := by
  rw [show (dat0 m c).Φ (Fin.last cfg0.N) = iprop(scratch (F := F) c ∗ (∃ r, prngReg c r) ∗ Pipeline.ownSems0 osem c ∗ Yk (F := F) c) from rfl,
    scopedRest0_eq, show (StableHlo.held (c : Thread nD τ) ∅ (V2 m (outsOf m) c) : sProp 𝕄) = BI.emp from BI.bigSep_empty]
  unfold scratch
  iintro ⟨Hs, Hp, Ho, HY⟩
  isplitl [Hs]; · iexact Hs
  isplitl [Hp]; · iexact Hp
  isplitr; · iempintro
  isplitl [Ho]; · iexact Ho
  iexact HY

set_option backward.isDefEq.respectTransparency.types false in
/-- The region's record: entered with the ring's launch state, left with the barrier's counter at zero and nothing owed. -/
def reg0 : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ others (Finset.empty_subset _) launch0.toP rfl (fun c => (body_obligation m c).loose)
    (fun _ => 0) O₀ (fun c => (owed_first m c).trans (zero_add _).symm) (fun c => owed_last m c) (fun _ => rfl)
    (fun c w => (dat0 m c).share_full (fun _ => rfl) w)
    (V1 m) (V2 m (outsOf m))
    (fun c b hb => Function.update_of_ne (fun e => by
      rw [Finset.sdiff_empty, Finset.mem_sdiff] at hb
      exact hb.2 (e ▸ out_mem)) _ _)
    (Tk m) (Yk (F := F)) (Xk m) (Yk (F := F)) (open_region m) (enter_inv m) (leave_inv m)
    (fun c => by iintro H; imodintro; iexact H)
    (fun _ => 0)
    ⟨fun c w s => by rw [L_tc]; exact Finset.mem_singleton_self _,
      fun c w s => le_of_eq (if_neg (Nat.not_le.mpr (stage_low w s))), fun c t g i h => owed_above m c t g i h⟩
    (fun _ => iprop(emp))
    (fun c w => rfl) (fun c w => arr_after m c w)

/-- What rides beside the buffers into the region, and out of it. -/
def ride : Fin 2 → Dev nD → sProp 𝕄
  | 0, c => iprop(Tk m c ∗ (∃ r, prngReg c r) ∗ ∃ W, owes (c : Thread nD τ) (O₀ c) W)
  | 1, c => iprop(Yk (F := F) c ∗ ∃ W, owes (c : Thread nD τ) (0 : CellTallies nD τ sig Unit) W)

/-- What a device holds before the region is what the region takes. -/
theorem reg0_pre (c : Dev nD) :
    iprop(StableHlo.held (c : Thread nD τ) (Pipeline.ucRefs τ sig) (V1 m c) ∗ ride m 0 c) ⊢ (reg0 m).pre c := by
  show _ ⊢ iprop(StableHlo.held (c : Thread nD τ) (Pipeline.arrRefs (τ := τ) spec0) (V1 m c) ∗ (∃ r, prngReg c r)
    ∗ (StableHlo.held (c : Thread nD τ) others (V1 m c) ∗ emp) ∗ Tk m c ∗ ∃ Wd, owes (c : Thread nD τ) (0 + O₀ c) Wd)
  rw [StableHlo.held_sub_split (c : Thread nD τ) arrs_sub (V1 m c), zero_add]
  unfold ride
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

/-- What the region leaves is what a device holds after it. -/
theorem reg0_post (c : Dev nD) :
    (reg0 m).post c ⊢ iprop(StableHlo.held (c : Thread nD τ) (Pipeline.ucRefs τ sig) (V2 m (outsOf m) c) ∗ ride m 1 c) := by
  show iprop(StableHlo.held (c : Thread nD τ) (Pipeline.arrRefs (τ := τ) spec0) (V2 m (outsOf m) c) ∗ (∃ r, prngReg c r)
    ∗ (StableHlo.held (c : Thread nD τ) others (V2 m (outsOf m) c) ∗ emp) ∗ Yk (F := F) c
    ∗ ∃ Wd, owes (c : Thread nD τ) (0 : CellTallies nD τ sig Unit) Wd) ⊢ _
  rw [StableHlo.held_sub_split (c : Thread nD τ) arrs_sub (V2 m (outsOf m) c)]
  unfold ride
  iintro ⟨Ha, -, ⟨Hr, -⟩, HY, HO⟩
  isplitl [Ha Hr]
  · isplitl [Ha]; · iexact Ha
    iexact Hr
  isplitl [HY]; · iexact HY
  iexact HO

/-! ## The launch -/

/-- The launch element: the pipeline's, and the ring's. -/
def u₀ : UU :=
  (initOf (Pipeline.cells (Pipeline.pin (pcfgs (F := F)) adm) cellOf_inj) (Pipeline.launchToks (Pipeline.pin (pcfgs (F := F)) adm) cellOf_inj),
    launchOf barCells scCells ringToks)

/-- A resource held by device 0 until the launch's common step. -/
def onFirst (X : sProp 𝕄) (c : Dev nD) : sProp 𝕄 := if c = 0 then X else iprop(emp)
/-- Over all devices it is there once. -/
theorem onFirst_all (X : sProp 𝕄) : bigSep Finset.univ (onFirst X) = X := by
  rw [bigSep_univ_at _ (0 : Dev nD), bigSep_congr (s := Finset.univ.erase (0 : Dev nD)) (Ψ := fun _ => (BI.emp : sProp 𝕄))
      fun c hc => by unfold onFirst; rw [if_neg (Finset.ne_of_mem_erase hc)]; rfl, BI.bigSep_emp_const]
  unfold onFirst
  rw [if_pos rfl]
  exact BI.equiv_iff.mp sep_emp

/-- The ring's launch element, held by device 0. -/
def G : Dev nD → sProp 𝕄 := onFirst (BI.own (ER (launchOf barCells scCells ringToks)))

/-- The one counter outside the region's scope is the barrier's. -/
theorem sems0_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- What of a device's launch holdings is not the ring's. -/
def bundle (c : Dev nD) : sProp 𝕄 :=
  iprop(StableHlo.held (c : Thread nD τ) (Pipeline.ucRefs τ sig) (V0 m c) ∗ credits (F := F) c ∗ owes (c : Thread nD τ) (O₀ c) ∅ ∗ ∃ r, prngReg c r)

/-- A device's state at the start of the program. -/
abbrev T₀ (c : Dev nD) : sProp 𝕄 := iprop(StableHlo.held (c : Thread nD τ) (Pipeline.ucRefs τ sig) (V0 m c) ∗ ride m 0 c)
/-- And at its end. -/
abbrev Tₙ (c : Dev nD) : sProp 𝕄 := iprop(StableHlo.held (c : Thread nD τ) (Pipeline.ucRefs τ sig) (V3 m (outsOf m) c) ∗ Yk (F := F) c)

/-- The invariants and openings that the launch makes. -/
def records (K : GSem nD τ sig → ℕ) : sProp 𝕄 :=
  iprop((bigSep (barCells ∪ scCells) fun g => cellInv ER (Rd (insOf m)) (K g) g) ∗ (bigSep barCells fun g => reached ER g 0))

/-- They may be consulted again. -/
instance records_persistent (K : GSem nD τ sig → ℕ) : BI.Persistent (records m K) := by unfold records; infer_instance

/-- With them a device's holdings make up its state at the start. -/
theorem start_of (K : GSem nD τ sig → ℕ) (c : Dev nD) : iprop(records m K ∗ (launched (F := F) c ∗ bundle m c)) ⊢ T₀ m c := by
  unfold records bundle T₀ ride Tk shared
  iintro ⟨#HR, Hl, Hh, Hc, HO, Hp⟩
  isplitl [Hh]; · iexact Hh
  isplitl [Hl Hc]
  · isplitr; · iexists K; iexact HR
    isplitl [Hl]; · iexact Hl
    iexact Hc
  isplitl [Hp]; · iexact Hp
  iexists ∅
  iexact HO

/-- A device's holdings at launch, sorted. -/
theorem core_of (ρ : Dev nD → PrngReg) (c : Dev nD) :
    iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ (semVal (barCell c) 0 ∗ G c)) : sProp 𝕄) := by
  rw [show unscopedBufs c (fun b => m ((c : Thread nD τ).loc b)) = StableHlo.held (c : Thread nD τ) (Pipeline.ucRefs τ sig) (V0 m c) from
    Pipeline.unscopedBufs_held c (V0 m c), sems0_eq]
  unfold bundle
  iintro ⟨Hh, Hus, HO, Hcr, Hp, HG⟩
  ihave Hc := (credits_of (F := F) c) $$ Hcr
  isplitl [Hh Hc HO Hp]
  · isplitl [Hh]; · iexact Hh
    isplitl [Hc]; · iexact Hc
    isplitl [HO]; · iexact HO
    iexists (ρ c)
    iexact Hp
  isplitl [Hus]; · iexact Hus
  iexact HG

/-- The barrier cells' positions, by device. -/
theorem at_of : bigSep barCells (fun g => (atPos ER g 0 ∅ 0 : sProp 𝕄)) = bigSep Finset.univ (fun c : Dev nD => (atPos ER (barCell c) 0 ∅ 0 : sProp 𝕄)) :=
  bigSep_map (s := Finset.univ) barEmb (Φ := fun g : GSem nD τ sig => (atPos ER g 0 ∅ 0 : sProp 𝕄))
/-- The barrier counters, by device. -/
theorem val_of : bigSep Finset.univ (fun c : Dev nD => (semVal (barCell c) 0 : sProp 𝕄)) = bigSep barCells (fun g => (semVal g 0 : sProp 𝕄)) :=
  (bigSep_map (s := Finset.univ) barEmb (Φ := fun g : GSem nD τ sig => (semVal g 0 : sProp 𝕄))).symm

/-- What each device keeps of the ring, dealt from the whole. -/
theorem launched_of :
    iprop(bigSep barCells (fun g => (atPos ER g 0 ∅ 0 : sProp 𝕄)) ∗ bigSep scCells (fun g => (openTok ER g : sProp 𝕄))
        ∗ bigSep ringToks (fun x => (dutyTok ER x.1 x.2.1 x.2.2 : sProp 𝕄)))
      ⊢ bigSep Finset.univ fun c : Dev nD => launched (F := F) c := by
  rw [at_of, by_device]
  refine (sep_mono_right (sep_mono_right (toks_dealt (F := F)))).trans ?_
  unfold launched
  simp only [bigSep_sep']
  iintro ⟨Ha, Ho, Ht, Hd⟩
  isplitl [Ha]; · iexact Ha
  isplitl [Ht]; · iexact Ht
  isplitl [Ho]; · iexact Ho
  iexact Hd

/-- The launch's common step. -/
theorem init (ρ : Dev nD → PrngReg) :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (barCell c) 0 ∗ G c)) : sProp 𝕄) from bigSep_mono fun c _ => core_of m ρ c) $$ H
  ihave H2 := (Entails.of_eq (bigSep_sep' (Finset.univ : Finset (Dev nD)) _ _)) $$ H'
  icases H2 with ⟨HB, H3⟩
  ihave H4 := (Entails.of_eq (bigSep_sep' (Finset.univ : Finset (Dev nD)) _ _)) $$ H3
  icases H4 with ⟨Hv, HG⟩
  ihave Hu := (show bigSep Finset.univ (G (F := F)) ⊢ BI.own (ER (launchOf barCells scCells ringToks)) from
    Entails.of_eq (onFirst_all (F := F) (BI.own (ER (launchOf barCells scCells ringToks))))) $$ HG
  imod (Rounds.fund_launch ER (Rd (insOf m)) disjoint_cells (fun g _ h => h) ringToks) $$ [Hv Hu] with ⟨%K, -, #Hinv, #Hr, Hat, Hopen, Htok⟩
  · isplitl [Hv]
    · iapply (Entails.of_eq (val_of (F := F))) $$ Hv
    iexact Hu
  imodintro
  iapply (bigSep_with_persistent (R := records m K) (Φ := fun c => iprop(launched (F := F) c ∗ bundle m c)) fun c _ => start_of m K c)
  isplitr
  · unfold records
    isplitr; · iexact Hinv
    iexact Hr
  iapply (Entails.of_eq (bigSep_sep' (Finset.univ : Finset (Dev nD)) _ _).symm)
  isplitr [HB]
  · iapply (launched_of (F := F))
    isplitl [Hat]; · iexact Hat
    isplitl [Hopen]; · iexact Hopen
    iexact Htok
  iexact HB

/-- A semaphore outside the region's scope is the barrier's. -/
theorem unscoped_bar : ∀ sm : SemLoc sig, sm.isScoped .tc = false → sm = .reg barS := by decide

/-- What is read off a device's final state: the arguments as launched, the result, the barrier's counter at zero. -/
def Reads (c : Dev nD) (s : MemSt nD τ sig (Elt F)) : Prop :=
  (∀ r : Ref sig .tc, r.isScoped = false → s.mem ((c : Thread nD τ).loc r) = V3 m (outsOf m) c r) ∧ s.sem (barCell c) = 0

/-- A device's state at the end shows what its memory holds. -/
theorem read_end (c : Dev nD) (s' : Phys nD τ sig (Elt F)) :
    iprop(Tₙ m c ∗ SI s') ⊢ (|={Set.univ}=> iprop(⌜Reads m c s'.mem⌝ ∗ SI s') : sProp 𝕄) := by
  dsimp only [Tₙ]
  unfold Yk StableHlo.held
  iintro ⟨⟨Hh, Hb⟩, HSI⟩
  icombine HSI Hb gives %hb
  ihave Hr := (pointsTo_read_all (Pipeline.ucRefs τ sig) (fun b => ((c : Thread nD τ).1, b)) (V3 m (outsOf m) c) s') $$ [Hh HSI]
  · isplitl [Hh]; · iexact Hh
    iexact HSI
  icases Hr with ⟨%h, HSI⟩
  imodintro
  isplitr
  · ipureintro
    exact ⟨fun r hr => h (Proc.devRef .tc r) (Finset.mem_filter.mpr ⟨StableHlo.devRef_mem_tcRefs r, by
      intro e
      exact Bool.noConfusion (hr.symm.trans e)⟩), by simpa using hb⟩
  iexact HSI

set_option backward.isDefEq.respectTransparency.types false in
/-- The run: from any memory with zero counters every weakly fair execution of the program on the eight devices terminates, and
    every final state has each buffer outside the region's scope at the last valuation and every counter at zero. -/
theorem run_main (ρ : Dev nD → PrngReg) :
    θ_run (defs (F := F)) (onTc (τ := τ) (main (F := F))) ⟨m, fun _ => 0, ρ⟩
      (fun r => (∀ (c : Dev nD) (b : Ref sig .tc), b.isScoped = false → r.2.mem ((c : Thread nD τ).loc b) = V3 m (outsOf m) c b)
        ∧ r.2.sem = fun _ => 0) := by
  refine Pipeline.θ_run_regions_kit_dev_sems (pcfgs (F := F)) adm (pdats m) () cellOf_inj EP defs₀ 𝒱₀ L lv m ρ main
    (segs m (outsOf m) 𝒱₀ L lv (ride m) () (pdats m) (reg0 m))
    (fun c Q => by
      rewrite [main_chain c, Pipeline.Seg.run_eq_chain,
        show (segs m (outsOf m) 𝒱₀ L lv (ride m) () (pdats m) (reg0 m) c).map Pipeline.Seg.prog = [
          StableHlo.seq (hostOps0 c),
          Prog.lift (.customCall (Pipeline.entry 0) ()),
          StableHlo.seq hostOps1 ] from rfl]
      dsimp (config := { failIfUnchanged := false }) only
      exact .rfl)
    (fun c => by simp only [segs, Pipeline.Seg.pipes_host, Pipeline.Seg.pipes_region, Pipeline.Seg.pipes_nil]; decide) O₀ L_of_ne
    G (u₀ (F := F)) ?_ (T₀ m) (Tₙ m) (fun c => ⟨.rfl, reg0_pre m c, reg0_post m c, ?_⟩) (init m ρ) (Reads m) (read_end m)
    (fun s h hs => ⟨fun c b hb => (h c).1 b hb, sem_eq_zero hs fun c sm hsm => by
      obtain rfl := unscoped_bar sm hsm
      exact (h c).2⟩)
  · unfold u₀ G
    iintro Hu
    ihave H := (ownU_pair _ _) $$ Hu
    icases H with ⟨HP, HX⟩
    imodintro
    isplitl [HP]; · iexact HP
    rw [onFirst_all]
    iexact HX
  · show iprop(StableHlo.held (c : Thread nD τ) (Pipeline.ucRefs τ sig) (V3 m (outsOf m) c) ∗ Yk (F := F) c
      ∗ ∃ W, owes (c : Thread nD τ) (0 : CellTallies nD τ sig Unit) W) ⊢ _
    iintro ⟨Hh, HY, HO⟩
    isplitr [HO]
    · isplitl [Hh]; · iexact Hh
      iexact HY
    iexact HO

end Cert.Proof

end
-- ==== Proof.Same.lean ====
/- The kernel as printed and the kernel printed for the ideal reading are one program: they differ in the
   name of a constant alone. -/
module

public import proofs.«01_k».proof.Proof.Gen.Kernel
public import proofs.«01_k».proof.Proof.Gen.KernelIdeal

@[expose] public section

noncomputable section

namespace Cert.Proof

open Idealize.ShloMosaic Idealize.SL.Sem

variable {F : FTy → Type} [FloatOps F]

/-- The reading of a named constant that takes it for what is printed. -/
@[reducible] def asPrinted (F : FTy → Type) [FloatOps F] : Named F := ⟨fun _ _ {φ} b => Scalar.ofBits φ b⟩

attribute [local instance] asPrinted

/-- The two bodies agree. -/
theorem body_same : @Cert.Kernel.cc0__body F _ _ = Cert.KernelIdeal.cc0__body (F := F) := rfl
/-- The two main programs agree. -/
theorem main_same : @Cert.Kernel.main F _ _ = Cert.KernelIdeal.main (F := F) := rfl
/-- The two tables of kernels agree. -/
theorem defs₀_same : @Cert.Kernel.defs₀ F _ _ = Cert.KernelIdeal.defs₀ (F := F) := by
  unfold Cert.Kernel.defs₀ Cert.KernelIdeal.defs₀
  refine congrArg Defs.onTc (funext fun l => ?_)
  fin_cases l
  exact rfl
/-- The two tables of regions agree. -/
theorem defs_same : @Cert.Kernel.defs F _ _ = Cert.KernelIdeal.defs (F := F) := by
  unfold Cert.Kernel.defs Cert.KernelIdeal.defs
  exact congrArg (Pipeline.defs _) defs₀_same

end Cert.Proof

end
-- ==== Proof.Frames.lean ====
/- The frames: each program runs to its end, faultless, with its arguments as they were and every counter
   at zero. -/
module

public import proofs.«01_k».proof.Defs
public import proofs.«01_k».proof.Proof.Launch
public import proofs.«01_k».proof.Proof.Same
public import proofs.«01_k».proof.Proof.Gen.ReferenceIdeal.Run

@[expose] public section

noncomputable section

namespace Cert.Proof

open Idealize.ShloMosaic Idealize.SL.Sem Idealize.ShloMosaic.TcCoe Cert.KernelIdeal Cert.KernelIdeal.Gen

section
variable {F : FTy → Type} [FloatOps F] [Named F]

/-- In any arithmetic the kernel runs, leaves its five arguments as they were and every counter at zero. -/
theorem run_frame (m : (ℓ : Loc nD τ sig) → Buf (Elt F) ℓ) (ρ : Dev nD → PrngReg) :
    θ_run (defs (F := F)) (onTc (τ := τ) (main (F := F))) ⟨m, fun _ => 0, ρ⟩ (fun r =>
      (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
      ∧ r.2.sem = fun _ => 0) :=
  (θ_run _ _ _).mono (fun _ h => ⟨fun c =>
    ⟨(h.1 c main_arg0 (by decide)).trans (V3_main_arg0 m _ c),
      (h.1 c main_arg1 (by decide)).trans (V3_main_arg1 m _ c),
      (h.1 c main_arg2 (by decide)).trans (V3_main_arg2 m _ c),
      (h.1 c main_arg3 (by decide)).trans (V3_main_arg3 m _ c),
      (h.1 c main_arg4 (by decide)).trans (V3_main_arg4 m _ c)⟩, h.2⟩) (run_main m ρ)

end

/-- The frame of the kernel read over the extended reals. -/
theorem frame_ideal : Cert.quiescent_KernelIdeal := fun m g _ => run_frame m g

section
attribute [local instance] asPrinted

/-- The frame of the kernel on words: the same run, with the named constant read as it is printed. -/
theorem frame_bits : Cert.quiescent_Kernel := fun m g _ => by
  rw [defs_same, main_same]
  exact run_frame (F := Bits) m g
end

/-- The frame of the reference: its operations are host operations, and no counter moves. -/
theorem frame_reference : Cert.quiescent_ReferenceIdeal := fun m g _ =>
  (θ_run _ _ _).mono (fun r h => ⟨fun c => (h c).2, Idealize.ShloMosaic.sem_eq_zero_of_no_sems (by decide) r.2⟩)
    (Cert.ReferenceIdeal.Value.run (F := Ideal) m g)

/-- The one rewrite of the idealisation: the mask's constant, named minus infinity. -/
theorem mask_named : Cert.preserves_Kernel_KernelIdeal :=
  IdealRules.named_const.statement Cert.KernelIdeal.κ "mask" .f32 0xCE6E6B28#32 ⊥ rfl

end Cert.Proof

end
-- ==== Proof.Weigh.lean ====
module

public import Idealize.ShloMosaic.PureOps.Ideal
public import Idealize.ShloMosaic.PureOps.Ideal.Laws

/-!
# A row of attention as a function of its scores

`weigh s v` is the softmax of the scores `s` applied to the values `v`, over the extended reals. A
masked score is `⊥`. `weigh_pad` is the only fact about it that the certificate uses: scores that are
all `⊥` from some column on may be left out.
-/

@[expose] public section

noncomputable section

namespace Cert.Proof

open Idealize.ShloMosaic
open scoped BigOperators

/-- The greatest score. -/
def top {n : ℕ} (s : Fin n → EReal) : EReal := (Finset.univ : Finset (Fin n)).fold max ⊥ s

/-- A column's numerator: the exponential of its score less the greatest score. -/
def num {n : ℕ} (s : Fin n → EReal) (j : Fin n) : EReal := Ideal.exp (s j - top s)

/-- A row's denominator: the sum of its numerators. -/
def den {n : ℕ} (s : Fin n → EReal) : EReal := ∑ j, num s j

/-- The softmax of the scores `s` applied to the values `v`. -/
def weigh {n : ℕ} (s v : Fin n → EReal) : EReal := ∑ j, Ideal.div (num s j) (den s) * v j

/-- The exponential is nowhere negative. -/
theorem exp_nonneg (x : EReal) : 0 ≤ Ideal.exp x := by
  induction x with
  | bot => exact le_refl _
  | top => exact le_top
  | coe r => exact EReal.coe_nonneg.mpr (Real.exp_pos r).le

/-- The greatest score is the supremum of the scores. -/
theorem top_eq_sup {n : ℕ} (s : Fin n → EReal) : top s = Finset.univ.sup s := rfl

/-- A column whose score is `⊥` has numerator zero. -/
theorem num_bot {n : ℕ} (s : Fin n → EReal) (j : Fin n) (h : s j = ⊥) : num s j = 0 := by
  unfold num; rw [h, EReal.bot_sub]; rfl

/-- Columns of score `⊥` do not move the greatest score. -/
theorem top_pad {n p : ℕ} (s : Fin (n + p) → EReal) (hbot : ∀ j, s (Fin.natAdd n j) = ⊥) :
    top s = top fun j => s (Fin.castAdd p j) := by
  rw [top_eq_sup, top_eq_sup]
  refine le_antisymm (Finset.sup_le fun j _ => ?_) (Finset.sup_le fun j _ => Finset.le_sup (f := s) (Finset.mem_univ _))
  induction j using Fin.addCases with
  | left j => exact Finset.le_sup (f := fun j => s (Fin.castAdd p j)) (Finset.mem_univ j)
  | right j => rw [hbot]; exact bot_le

/-- Where no score is `⊤` and some score is not `⊥`, the denominator is not zero: the greatest score's own
    column contributes one. -/
theorem den_ne_zero {n : ℕ} (s : Fin n → EReal) (htop : ∀ j, s j ≠ ⊤) (hreal : ∃ j, s j ≠ ⊥) : den s ≠ 0 := by
  obtain ⟨j₁, h₁⟩ := hreal
  obtain ⟨j₀, -, h₀⟩ := Finset.exists_mem_eq_sup (Finset.univ : Finset (Fin n)) ⟨j₁, Finset.mem_univ _⟩ s
  have hb : s j₀ ≠ ⊥ := fun h => h₁ (le_bot_iff.mp ((h₀.trans h) ▸ Finset.le_sup (f := s) (Finset.mem_univ j₁)))
  have hn : num s j₀ = 1 := by
    unfold num
    rw [top_eq_sup, h₀]
    lift s j₀ to ℝ using ⟨htop j₀, hb⟩ with r
    rw [← EReal.coe_sub, sub_self]
    show ((Real.exp 0 : ℝ) : EReal) = 1
    rw [Real.exp_zero]; rfl
  have h : (1 : EReal) ≤ den s := hn ▸ Finset.single_le_sum (f := num s) (fun j _ => exp_nonneg _) (Finset.mem_univ j₀)
  exact fun h0 => absurd (h0 ▸ h) (not_le.mpr zero_lt_one)

/-- Columns of score `⊥` may be left out. -/
theorem weigh_pad {n p : ℕ} (s v : Fin (n + p) → EReal) (hbot : ∀ j, s (Fin.natAdd n j) = ⊥)
    (htop : ∀ j, s j ≠ ⊤) (hreal : ∃ j, s (Fin.castAdd p j) ≠ ⊥) :
    weigh s v = weigh (fun j => s (Fin.castAdd p j)) (fun j => v (Fin.castAdd p j)) := by
  have hnum : ∀ j, num s (Fin.castAdd p j) = num (fun j => s (Fin.castAdd p j)) j := fun j => by
    unfold num; rw [top_pad s hbot]
  have hzero : ∀ j, num s (Fin.natAdd n j) = 0 := fun j => num_bot s _ (hbot j)
  have hden : den s = den fun j => s (Fin.castAdd p j) := by
    unfold den
    rw [Fin.sum_univ_add, Finset.sum_congr rfl fun j _ => hnum j, Finset.sum_eq_zero fun j _ => hzero j, add_zero]
  have hne : den s ≠ 0 := den_ne_zero s htop (hreal.elim fun j h => ⟨_, h⟩)
  have hdrop : ∀ j, Ideal.div (num s (Fin.natAdd n j)) (den s) * v (Fin.natAdd n j) = 0 := fun j => by
    rw [hzero, Ideal.div, if_neg hne, zero_mul, zero_mul]
  unfold weigh
  rw [Fin.sum_univ_add, Finset.sum_eq_zero fun j _ => hdrop j, add_zero, hden]
  exact Finset.sum_congr rfl fun j _ => by rw [hnum]

end Cert.Proof

end
-- ==== Proof.HeadVal.lean ====
/- One head's share of the attention, read at an index over the extended reals. -/
module

public import proofs.«01_k».proof.Proof.Kern
public import proofs.«01_k».proof.Proof.Weigh
public import Idealize.ShloMosaic.Lib.MatmulPlain
public import Idealize.ShloMosaic.Lib.ValueIdx
public import Idealize.ShloMosaic.Lib.ValueLayout

@[expose] public section

noncomputable section

namespace Cert.Proof

open Idealize.ShloMosaic Idealize.ShloMosaic.ValueIdx
open Cert.KernelIdeal Cert.KernelIdeal.Gen
open scoped BigOperators

/-- Head `h` of device `d` among all the heads. -/
def headNo (d h : Fin 8) : Fin 64 := ⟨d.val * 8 + h.val, by have := d.isLt; have := h.isLt; omega⟩

/-- Key row `j` among all the key rows. -/
def keyRow (j : Fin 2048) : Fin 4096 := ⟨j.val, by have := j.isLt; omega⟩

/-! ## The mask -/

/-- The block of a row or column number, as the kernel computes it: division by 64 rounded down. -/
def blockOf (x : BitVec 32) : BitVec 32 :=
  Scalar.select
    (IntOp.andi
      (IntOp.cmpi .ne (IntOp.subi ((IntOp.cmpi .sgt x 0#32).setWidth 32) ((IntOp.cmpi .slt x 0#32).setWidth 32)) 1#32)
      (IntOp.cmpi .ne (IntOp.remsi .vector x 64#32) 0#32))
    (IntOp.subi (IntOp.divsi .vector x 64#32) 1#32) (IntOp.divsi .vector x 64#32)

/-- Of a number below 2048 that is its quotient by 64. -/
theorem blockOf_ofNat : ∀ k : Fin 2048, blockOf (BitVec.ofNat 32 k.val) = BitVec.ofNat 32 (k.val / 64) := by
  decide +kernel

/-- Comparing two block numbers. -/
theorem sle_ofNat : ∀ a b : Fin 64, IntOp.cmpi .sle (BitVec.ofNat 32 a.val) (BitVec.ofNat 32 b.val) = if a.val ≤ b.val then 1#1 else 0#1 := by
  decide +kernel

/-- The mask over the rows of the device whose place is the word `w`. -/
def keepV (w : BitVec 32) : IVec S256x2048 1 := fun i => IntOp.cmpi .sle (k0_pay4 i) (blockOf (k0_pay3 w i))

/-- A column's block number. -/
theorem colBlock (r : Fin 256) (j : Fin 2048) : k0_pay4 (ix2 r j) = BitVec.ofNat 32 (j.val / 64) :=
  (show k0_pay4 (ix2 r j) = blockOf (BitVec.ofNat 32 (0 * 2048 + j.val)) from rfl).trans
    (by rw [Nat.zero_mul, Nat.zero_add]; exact blockOf_ofNat j)

/-- A row's number among the rows of all devices. -/
theorem rowNumber (n : ℕ) (r : Fin 256) (j : Fin 2048) :
    k0_pay3 (BitVec.ofNat 32 n) (ix2 r j) = BitVec.ofNat 32 (n * 256 + r.val) := by
  have e : k0_pay3 (BitVec.ofNat 32 n) (ix2 r j) = BitVec.ofNat 32 (0 * 256 + r.val) + BitVec.ofNat 32 n * BitVec.ofNat 32 256 := rfl
  rw [e, ← BitVec.ofNat_mul, ← BitVec.ofNat_add]
  congr 1
  omega

/-- Column `j` is kept for row `r` of device `n` just if its block of 64 columns is not after the row's block. -/
theorem keepV_apply (n : ℕ) (hn : n < 8) (r : Fin 256) (j : Fin 2048) :
    keepV (BitVec.ofNat 32 n) (ix2 r j) = if j.val / 64 ≤ (n * 256 + r.val) / 64 then 1#1 else 0#1 := by
  have hr := r.isLt
  have hj := j.isLt
  unfold keepV
  rw [colBlock, rowNumber, blockOf_ofNat ⟨n * 256 + r.val, by omega⟩]
  exact sle_ofNat ⟨j.val / 64, by omega⟩ ⟨(n * 256 + r.val) / 64, by omega⟩

/-! ## The scores -/

/-- The scale of the scores. -/
def scale : EReal := Ideal.ofBits .f32 0x3DB504F3#32

/-- The masked scores of a block of rows. -/
def scoreV (w : BitVec 32) (q : FVec Ideal S256x128 .bf16) (kk : FVec Ideal S1x2048x128 .bf16) : FVec Ideal S256x2048 .f32 :=
  select (keepV w)
    (mulf (matmul dot_S256x128_S2048x128_S256x2048_1_1_0_0_n_n none q (shapeCast S2048x128 kk shapeCasts_S1x2048x128_S2048x128)
      (constant S256x2048 .f32 0x00000000#32)) (broadcast S256x2048 (Scalar.ofBits .f32 0x3DB504F3#32)))
    (broadcast S256x2048 (Named.named κ "mask" 0xCE6E6B28#32))

/-- A row of masked scores. -/
def rowScore (n : ℕ) (r : ℕ) (q : Fin 128 → EReal) (kk : Fin 2048 → Fin 128 → EReal) (j : Fin 2048) : EReal :=
  if j.val / 64 ≤ (n * 256 + r) / 64 then (∑ k, q k * kk j k) * scale else ⊥

/-- The named mask constant is minus infinity. -/
theorem mask_bot : (Named.named (F := Ideal) κ "mask" (φ := .f32) 0xCE6E6B28#32 : EReal) = ⊥ := rfl

/-- The masked score of row `r` and column `j`. -/
theorem scoreV_apply (n : ℕ) (hn : n < 8) (q : FVec Ideal S256x128 .bf16) (kk : FVec Ideal S1x2048x128 .bf16) (r : Fin 256) (j : Fin 2048) :
    scoreV (BitVec.ofNat 32 n) q kk (ix2 r j)
      = rowScore n r.val (fun k => q (ix2 r k)) (fun j k => kk (ix3 (0 : Fin 1) j k)) j := by
  have e : scoreV (BitVec.ofNat 32 n) q kk (ix2 r j)
      = Scalar.select (keepV (BitVec.ofNat 32 n) (ix2 r j))
          (FloatOps.matmul (F := Ideal) (DotDims.transposedRhs 256 128 2048) none q
            (shapeCast S2048x128 kk shapeCasts_S1x2048x128_S2048x128) (constant S256x2048 .f32 0x00000000#32) (ix2 r j) * scale : EReal)
          (Named.named (F := Ideal) κ "mask" (φ := .f32) 0xCE6E6B28#32 : EReal) := rfl
  have hm := Ideal.matmul_transposedRhs_apply (M := 256) (K := 128) (N := 2048) none q
    (shapeCast S2048x128 kk shapeCasts_S1x2048x128_S2048x128) (constant (F := Ideal) S256x2048 .f32 0x00000000#32) r j
  have hz : (constant (F := Ideal) S256x2048 .f32 0x00000000#32 (ix2 r j) : EReal) = 0 := Ideal.ofBits_zero_f32
  rw [hz, zero_add] at hm
  rw [e, keepV_apply n hn, hm, mask_bot]
  unfold rowScore
  split
  · rw [show ∀ a b : EReal, Scalar.select 1#1 a b = a from fun _ _ => rfl]
    refine congrArg (· * scale) (Finset.sum_congr rfl fun k _ => ?_)
    rw [shapeCast_1ab_ab_apply]
  · rfl

/-! ## The weights -/

/-- A row's value repeated along the columns. -/
abbrev alongRow (v : FVec Ideal S256 .f32) : FVec Ideal S256x2048 .f32 :=
  broadcastTo S256x2048 (shapeCast S256x1 v shapeCasts_S256_S256x1) broadcasts_S256x1_S256x2048

/-- It is the row's value in every column. -/
theorem alongRow_apply (v : FVec Ideal S256 .f32) (r : Fin 256) (j : Fin 2048) : alongRow v (ix2 r j) = v (ix1 r) := by
  refine (broadcastTo_apply _ _ (ix2 r j) (ix2 r (0 : Fin 1)) fun ax => ?_).trans ?_
  · match ax with
    | ⟨0, _⟩ => rfl
    | ⟨1, _⟩ => rfl
  · refine shapeCast_apply v shapeCasts_S256_S256x1 _ _ ?_
    rw [Shape.rowMajor_val_two, Shape.rowMajor_val_one]
    show r.val = r.val * 1 + 0
    omega

/-- A row's greatest score. -/
abbrev maxV (s : FVec Ideal S256x2048 .f32) : FVec Ideal S256 .f32 :=
  multiReduction .maximumf [1] S256 s 0xFF800000#32 reduces_S256x2048_S256 (.inl rfl) rfl

/-- A row's sum. -/
abbrev sumV (s : FVec Ideal S256x2048 .f32) : FVec Ideal S256 .f32 :=
  multiReduction .add [1] S256 s 0x00000000#32 reduces_S256x2048_S256 (.inl rfl) rfl

/-- The numerators. -/
abbrev numV (s : FVec Ideal S256x2048 .f32) : FVec Ideal S256x2048 .f32 := exp (subf s (alongRow (maxV s)))

/-- The softmax of a block of rows. -/
abbrev softV (s : FVec Ideal S256x2048 .f32) : FVec Ideal S256x2048 .f32 := divf (numV s) (alongRow (sumV (numV s)))

/-- The index with column `k` put in. -/
theorem lift_row (r : Fin 256) (k : Fin 2048) : (reduces_S256x2048_S256 : S256x2048.Reduces [1] S256).lift (ix1 r) k = ix2 r k := by
  funext a
  match a with
  | ⟨0, _⟩ => rfl
  | ⟨1, _⟩ => rfl

/-- The pattern the maximum starts from is minus infinity. -/
theorem ofBits_neg_inf : (FloatOps.ofBits (F := Ideal) .f32 0xFF800000#32 : EReal) = ⊥ := by
  show Ideal.ofBits .f32 0xFF800000#32 = ⊥
  simp [Ideal.ofBits, Ideal.ieee]

/-- The greatest score of row `r`. -/
theorem maxV_apply (s : FVec Ideal S256x2048 .f32) (r : Fin 256) : maxV s (ix1 r) = top fun j : Fin 2048 => s (ix2 r j) := by
  refine (Ideal.multiReduction_maximumf_single s _ reduces_S256x2048_S256 _ _ (ix1 r)).trans ?_
  rw [ofBits_neg_inf]
  exact congrArg (fun f : Fin 2048 → EReal => (Finset.univ : Finset (Fin 2048)).fold max ⊥ f)
    (funext fun k => congrArg s (lift_row r k))

/-- The sum of row `r`. -/
theorem sumV_apply (s : FVec Ideal S256x2048 .f32) (r : Fin 256) : sumV s (ix1 r) = ∑ j : Fin 2048, s (ix2 r j) := by
  refine (Ideal.multiReduction_add_single s _ reduces_S256x2048_S256 _ _ (ix1 r)).trans ?_
  exact Finset.sum_congr rfl fun k _ => congrArg s (lift_row r k)

/-- The numerator of row `r` and column `j`. -/
theorem numV_apply (s : FVec Ideal S256x2048 .f32) (r : Fin 256) (j : Fin 2048) :
    numV s (ix2 r j) = num (fun j : Fin 2048 => s (ix2 r j)) j := by
  show Ideal.exp (s (ix2 r j) - alongRow (maxV s) (ix2 r j)) = _
  rw [alongRow_apply, maxV_apply]
  rfl

/-- The weight of row `r` and column `j`. -/
theorem softV_apply (s : FVec Ideal S256x2048 .f32) (r : Fin 256) (j : Fin 2048) :
    softV s (ix2 r j) = Ideal.div (num (fun j : Fin 2048 => s (ix2 r j)) j) (den fun j : Fin 2048 => s (ix2 r j)) := by
  show Ideal.div (numV s (ix2 r j)) (alongRow (sumV (numV s)) (ix2 r j)) = _
  rw [alongRow_apply, sumV_apply, numV_apply]
  exact congrArg (Ideal.div _) (Finset.sum_congr rfl fun k _ => numV_apply s r k)

/-! ## The step -/

/-- A head's share, out of the stages above. -/
theorem headStep_eq (w : BitVec 32) (acc : FVec Ideal S256x1024 .f32) (q : FVec Ideal S256x128 .bf16) (kk vv : FVec Ideal S1x2048x128 .bf16)
    (wo : FVec Ideal S128x1024 .bf16) :
    headStep (F := Ideal) w acc q kk vv wo
      = addf acc (FloatOps.matmul (F := Ideal) (DotDims.plain 256 128 1024) none
          (FloatOps.matmul (F := Ideal) (φ₁ := .bf16) (φ₂ := .bf16) (DotDims.plain 256 2048 128) none (softV (scoreV w q kk))
            (shapeCast S2048x128 vv shapeCasts_S1x2048x128_S2048x128) (constant S256x128 .f32 0x00000000#32))
          (shapeCast S128x1024 wo shapeCasts_S128x1024_S128x1024) (constant S256x1024 .f32 0x00000000#32)) := rfl

/-- A head's share at row `r` and output column `e`. -/
theorem headStep_apply (n : ℕ) (hn : n < 8) (acc : FVec Ideal S256x1024 .f32) (q : FVec Ideal S256x128 .bf16)
    (kk vv : FVec Ideal S1x2048x128 .bf16) (wo : FVec Ideal S128x1024 .bf16) (r : Fin 256) (e : Fin 1024) :
    headStep (F := Ideal) (BitVec.ofNat 32 n) acc q kk vv wo (ix2 r e)
      = acc (ix2 r e) + ∑ k : Fin 128,
          weigh (rowScore n r.val (fun k => q (ix2 r k)) fun j k => kk (ix3 (0 : Fin 1) j k)) (fun j => vv (ix3 (0 : Fin 1) j k))
            * wo (ix2 k e) := by
  rw [headStep_eq, addf_apply]
  refine congrArg (acc (ix2 r e) + ·) ?_
  rw [Ideal.matmul_plain_apply,
    show (constant (F := Ideal) S256x1024 .f32 0x00000000#32 (ix2 r e) : EReal) = 0 from Ideal.ofBits_zero_f32, zero_add]
  refine Finset.sum_congr rfl fun k _ => ?_
  rw [Ideal.matmul_plain_apply,
    show (constant (F := Ideal) S256x128 .f32 0x00000000#32 (ix2 r k) : EReal) = 0 from Ideal.ofBits_zero_f32, zero_add, shapeCast_self]
  refine congrArg (· * wo (ix2 k e)) (Finset.sum_congr rfl fun j _ => ?_)
  rw [softV_apply, shapeCast_1ab_ab_apply]
  have hs : (fun j : Fin 2048 => scoreV (BitVec.ofNat 32 n) q kk (ix2 r j))
      = rowScore n r.val (fun k => q (ix2 r k)) fun j k => kk (ix3 (0 : Fin 1) j k) := funext fun j => scoreV_apply n hn q kk r j
  rw [hs]

end Cert.Proof

end
-- ==== Proof.AttnVal.lean ====
/- One device's attention over one block of rows, and the ring's sum of them over the devices, over the extended reals. -/
module

public import proofs.«01_k».proof.Proof.HeadVal
public import proofs.«01_k».proof.Proof.Common

@[expose] public section

noncomputable section

namespace Cert.Proof

open Idealize.ShloMosaic Idealize.ShloMosaic.ValueIdx
open Cert.KernelIdeal Cert.KernelIdeal.Gen
open scoped BigOperators

/-! ## The heads of one device -/

/-- Column `k` of head `h` among a device's columns. -/
def col (h : Fin 8) (k : Fin 128) : Fin 1024 := ⟨h.val * 128 + k.val, by have := h.isLt; have := k.isLt; omega⟩

/-- The attention of head `h` at row `r` of the block of device `n`, projected to output column `e`. -/
def headShare (n : ℕ) (q : S256x1024.Idx → EReal) (K V : S8x2048x128.Idx → EReal) (Wo : S1024x1024.Idx → EReal) (r : Fin 256) (e : Fin 1024)
    (h : Fin 8) : EReal :=
  ∑ k : Fin 128,
    weigh (rowScore n r.val (fun k => q (ix2 r (col h k))) fun j k => K (ix3 h j k)) (fun j => V (ix3 h j k)) * Wo (ix2 (col h k) e)

/-- Where trip `n` reads the query rows. -/
theorem off1_eq : ∀ n : Fin k0_t1_loop.trips, k0_off1 n = ![0, n.val * 128] := by decide +kernel
/-- Where trip `n` reads the keys and the values. -/
theorem off2_eq : ∀ n : Fin k0_t1_loop.trips, k0_off2 n = ![n.val, 0, 0] := by decide +kernel
/-- Where trip `n` reads the output matrix. -/
theorem off3_eq : ∀ n : Fin k0_t1_loop.trips, k0_off3 n = ![n.val * 128, 0] := by decide +kernel

/-- The query rows of head `h`. -/
theorem emb_q (h : Fin 8) (r : Fin 256) (k : Fin 128) :
    (Rect.unit (s := S256x1024) (k0_off1 h) S256x128.size (k0_off1_inb h)).emb (ix2 r k) = ix2 r (col h k) := by
  funext a
  apply Fin.ext
  rw [Rect.emb_apply]
  refine (congrArg (fun o : Fin _ → ℕ => o a + 1 * _) (off1_eq h)).trans ?_
  match a with
  | ⟨0, _⟩ => show 0 + 1 * r.val = r.val; omega
  | ⟨1, _⟩ => show h.val * 128 + 1 * k.val = h.val * 128 + k.val; omega

/-- The keys, or the values, of head `h`. -/
theorem emb_kv (h : Fin 8) (j : Fin 2048) (k : Fin 128) :
    (Rect.unit (s := S8x2048x128) (k0_off2 h) S1x2048x128.size (k0_off2_inb h)).emb (ix3 (0 : Fin 1) j k) = ix3 h j k := by
  funext a
  apply Fin.ext
  rw [Rect.emb_apply]
  refine (congrArg (fun o : Fin _ → ℕ => o a + 1 * _) (off2_eq h)).trans ?_
  match a with
  | ⟨0, _⟩ => show h.val + 1 * 0 = h.val; omega
  | ⟨1, _⟩ => show 0 + 1 * j.val = j.val; omega
  | ⟨2, _⟩ => show 0 + 1 * k.val = k.val; omega

/-- The output matrix's rows of head `h`. -/
theorem emb_wo (h : Fin 8) (k : Fin 128) (e : Fin 1024) :
    (Rect.unit (s := S1024x1024) (k0_off3 h) S128x1024.size (k0_off3_inb h)).emb (ix2 k e) = ix2 (col h k) e := by
  funext a
  apply Fin.ext
  rw [Rect.emb_apply]
  refine (congrArg (fun o : Fin _ → ℕ => o a + 1 * _) (off3_eq h)).trans ?_
  match a with
  | ⟨0, _⟩ => show h.val * 128 + 1 * k.val = h.val * 128 + k.val; omega
  | ⟨1, _⟩ => show 0 + 1 * e.val = e.val; omega

section
variable (n : ℕ) (hn : n < 8) (q : FVec Ideal S256x1024 .bf16) (K V : FVec Ideal S8x2048x128 .bf16) (Wo : FVec Ideal S1024x1024 .bf16)
  (r : Fin 256) (e : Fin 1024)

/-- One more trip adds its head's share. -/
theorem headsV_succ (hn : n < 8) (t : Fin 8) :
    headsV (F := Ideal) (BitVec.ofNat 32 n) q K V Wo (t.val + 1) (ix2 r e)
      = headsV (F := Ideal) (BitVec.ofNat 32 n) q K V Wo t.val (ix2 r e) + headShare n q K V Wo r e t := by
  have ht : t.val < k0_t1_loop.trips := t.isLt
  rw [headsV, dif_pos ht, headStep_apply n hn]
  refine congrArg (_ + ·) (Finset.sum_congr rfl fun k _ => ?_)
  refine congrArg₂ (· * ·) (congrArg₂ weigh ?_ ?_) ?_
  · refine congrArg₂ (rowScore n r.val) ?_ ?_
    · exact funext fun k => congrArg q (emb_q t r k)
    · exact funext fun j => funext fun k => congrArg K (emb_kv t j k)
  · exact funext fun j => congrArg V (emb_kv t j k)
  · exact congrArg Wo (emb_wo t k e)

/-- All trips together: the sum over the heads. -/
theorem attnV_apply (hn : n < 8) :
    attnV (F := Ideal) (BitVec.ofNat 32 n) q K V Wo (ix2 r e) = ∑ h : Fin 8, headShare n q K V Wo r e h := by
  have h0 : headsV (F := Ideal) (BitVec.ofNat 32 n) q K V Wo 0 (ix2 r e) = 0 := Ideal.ofBits_zero_f32
  have hs := headsV_succ n q K V Wo r e hn
  show headsV (F := Ideal) (BitVec.ofNat 32 n) q K V Wo 8 (ix2 r e) = _
  rw [Fin.sum_univ_eight]
  refine (hs 7).trans (congrArg (· + headShare n q K V Wo r e 7) ?_)
  refine (hs 6).trans (congrArg (· + headShare n q K V Wo r e 6) ?_)
  refine (hs 5).trans (congrArg (· + headShare n q K V Wo r e 5) ?_)
  refine (hs 4).trans (congrArg (· + headShare n q K V Wo r e 4) ?_)
  refine (hs 3).trans (congrArg (· + headShare n q K V Wo r e 3) ?_)
  refine (hs 2).trans (congrArg (· + headShare n q K V Wo r e 2) ?_)
  refine (hs 1).trans (congrArg (· + headShare n q K V Wo r e 1) ?_)
  refine (hs 0).trans ((congrArg (· + headShare n q K V Wo r e 0) h0).trans (zero_add _))

end

/-- The projected rows. -/
theorem projected_apply (x : FVec Ideal S256x1024 .bf16) (wq : FVec Ideal S1024x1024 .bf16) (r : Fin 256) (n : Fin 1024) :
    k0_pay2 (F := Ideal) x wq (ix2 r n) = ∑ i : Fin 1024, x (ix2 r i) * wq (ix2 i n) := by
  have e : k0_pay2 (F := Ideal) x wq
      = shapeCast S256x1024 (FloatOps.matmul (F := Ideal) (DotDims.plain 256 1024 1024) none
          (shapeCast S256x1024 x shapeCasts_S256x1024_S256x1024) (shapeCast S1024x1024 wq shapeCasts_S1024x1024_S1024x1024)
          (constant S256x1024 .f32 0x00000000#32)) shapeCasts_S256x1024_S256x1024 := rfl
  rw [e, shapeCast_self, shapeCast_self, shapeCast_self, Ideal.matmul_plain_apply,
    show (constant (F := Ideal) S256x1024 .f32 0x00000000#32 (ix2 r n) : EReal) = 0 from Ideal.ofBits_zero_f32, zero_add]

/-! ## The ring -/

variable (I : Ins Ideal)

/-- The attention with the heads of device `d` over row `r` of device `c`'s block, at output column `e`. -/
def part (d c : Dev nD) (r : Fin 256) (e : Fin 1024) : EReal :=
  ∑ h : Fin 8, headShare c.val (k0_pay2 (F := Ideal) (I.x c) (I.wq d)) (I.k d) (I.v d) (I.wo d) r e h

/-- The device `t` places to the left. -/
def back : ℕ → Dev nD → Dev nD
  | 0, c => c
  | t + 1, c => back t (prv c)

/-- The rows in slot `t` are those of the device `t` places to the left. -/
theorem xAt_back (t : ℕ) (c : Dev nD) : xAt I t c = I.x (back t c) := by
  induction t generalizing c with
  | zero => rfl
  | succ t ih => exact ih (prv c)

/-- A device's place is its number. -/
theorem place_eq : ∀ c : Dev nD, place c = BitVec.ofNat 32 c.val := by decide +kernel
/-- The place of the rows of step `t` is the number of the device that they come from. -/
theorem chunk_eq : ∀ (t : Fin 7) (c : Dev nD), chunk c t.val = BitVec.ofNat 32 (back (t.val + 1) c).val := by decide +kernel

/-- The share of a device over its own rows. -/
theorem ownV_apply (c : Dev nD) (r : Fin 256) (e : Fin 1024) : ownV I c (ix2 r e) = part I c c r e := by
  unfold ownV
  rw [place_eq, attnV_apply _ _ _ _ _ _ _ c.isLt]
  rfl

/-- The share of a device over the rows of step `t`. -/
theorem pcV_apply (t : Fin 7) (c : Dev nD) (r : Fin 256) (e : Fin 1024) : pcV I t.val c (ix2 r e) = part I c (back (t.val + 1) c) r e := by
  unfold pcV
  rw [chunk_eq, attnV_apply _ _ _ _ _ _ _ (back (t.val + 1) c).isLt, xAt_back]
  rfl

/-- The first share, written to a slot and read back. -/
theorem first_rows (v : FVec Ideal S256x1024 .f32) : rowsOf (k0_pay15 (F := Ideal) v) = v := rowsOf_slotOf v

/-- A share added to a partial sum, written to a slot and read back. -/
theorem next_rows (v : FVec Ideal S256x1024 .f32) (s : Vec Ideal S256x1024 .bf16) (i : S256x1024.Idx) :
    (rowsOf (k0_pay22 (F := Ideal) v (slotOf s)) i : EReal) = (s i : EReal) + (v i : EReal) := by
  have e : k0_pay22 (F := Ideal) v (slotOf s) = slotOf (fun i => (rowsOf (slotOf s) i : EReal) + (v i : EReal)) := rfl
  rw [e, rowsOf_slotOf, rowsOf_slotOf]

/-- A device's own share added to a partial sum read from a slot. -/
theorem last_rows (v : FVec Ideal S256x1024 .f32) (s : Vec Ideal S256x1024 .bf16) (i : S256x1024.Idx) :
    (k0_pay66 (F := Ideal) v (slotOf s) i : EReal) = (s i : EReal) + (v i : EReal) := by
  have e : k0_pay66 (F := Ideal) v (slotOf s) = fun i => (rowsOf (slotOf s) i : EReal) + (v i : EReal) := rfl
  rw [e, rowsOf_slotOf]

/-- The first partial sum is the first share. -/
theorem sumAt_zero (c : Dev nD) : sumAt I 0 c = pcV I 0 c := by
  rw [sumAt, first_rows]

/-- Each later partial sum is the left neighbour's with this device's share added. -/
theorem sumAt_succ (t : ℕ) (c : Dev nD) (i : S256x1024.Idx) :
    (sumAt I (t + 1) c i : EReal) = (sumAt I t (prv c) i : EReal) + (pcV I (t + 1) c i : EReal) := by
  rw [sumAt]
  exact next_rows _ _ i

/-- The result is the last partial sum with the device's own share added. -/
theorem outV_sum (c : Dev nD) (i : S256x1024.Idx) : (outV I c i : EReal) = (sumAt I 6 (prv c) i : EReal) + (ownV I c i : EReal) := by
  unfold outV
  exact last_rows _ _ i

/-- Going around the ring passes each device once. -/
theorem sum_ring (f : Dev nD → EReal) : ∀ c : Dev nD,
    f (back 7 c) + f (back 6 c) + f (back 5 c) + f (back 4 c) + f (back 3 c) + f (back 2 c) + f (back 1 c) + f c = ∑ d : Fin 8, f d := by
  intro c
  have hb : ∀ c : Dev nD, Function.Bijective fun u : Fin 8 => back u.val c := by decide +kernel
  rw [← (hb c).sum_comp f, Fin.sum_univ_eight]
  show _ = f c + f (back 1 c) + f (back 2 c) + f (back 3 c) + f (back 4 c) + f (back 5 c) + f (back 6 c) + f (back 7 c)
  ac_rfl

/-- Eight steps to the left come back to the device itself. -/
theorem back_around : ∀ c : Dev nD, back 8 c = c := by decide +kernel

/-- The result block of device `c`: the sum over the devices of their attention over its rows. -/
theorem outV_apply (c : Dev nD) (r : Fin 256) (e : Fin 1024) : (outV I c (ix2 r e) : EReal) = ∑ d : Fin 8, part I d c r e := by
  rw [outV_sum, ownV_apply, sumAt_succ, sumAt_succ, sumAt_succ, sumAt_succ, sumAt_succ, sumAt_succ, sumAt_zero]
  rw [← sum_ring (fun d => part I d c r e) c]
  have p : ∀ (t : Fin 7) (d : Dev nD), back (t.val + 1) d = c → (pcV I t.val d (ix2 r e) : EReal) = part I d c r e := fun t d h => by
    rw [pcV_apply, h]
  have h0 := p 0 (back 7 c) (back_around c)
  have h1 := p 1 (back 6 c) (back_around c)
  have h2 := p 2 (back 5 c) (back_around c)
  have h3 := p 3 (back 4 c) (back_around c)
  have h4 := p 4 (back 3 c) (back_around c)
  have h5 := p 5 (back 2 c) (back_around c)
  have h6 := p 6 (back 1 c) (back_around c)
  exact congrArg (· + part I c c r e) (congrArg₂ (· + ·) (congrArg₂ (· + ·) (congrArg₂ (· + ·) (congrArg₂ (· + ·) (congrArg₂ (· + ·)
    (congrArg₂ (· + ·) h0 h1) h2) h3) h4) h5) h6)

end Cert.Proof

end
-- ==== Proof.HostVal.lean ====
/- What the host's operations around the kernel hand it and take from it, over the extended reals. -/
module

public import proofs.«01_k».proof.Proof.AttnVal
public import proofs.«01_k».proof.Proof.Launch
public import Idealize.ShloMosaic.Lib.DynamicIndex
public import Idealize.ShloMosaic.Lib.Pipeline.ValueKit.Geometry
public import Idealize.ShloMosaic.Lib.StableHlo.RunRead

@[expose] public section

noncomputable section

namespace Cert.Proof

open Idealize.ShloMosaic Idealize.ShloMosaic.ValueIdx
open Idealize.ShloMosaic.TcCoe
open Cert.KernelIdeal Cert.KernelIdeal.Gen

variable (m : (ℓ : Loc nD τ sig) → Buf (Elt Ideal) ℓ)

/-! ## What the host hands the kernel -/

/-- The rows: the device's block of `x` without its unit axis. -/
theorem host_x (c : Dev nD) : V1 m c main_v22
    = truncf (F := Ideal) .bf16 (shapeCast S256x1024 (m ((c : Thread nD τ).loc main_arg0)) shapeCasts_S1x256x1024_S256x1024) bitsLt_bf16_f32 := by
  after_results_simp
  rfl

/-- The query matrix: the device's block of it. -/
theorem host_wq (c : Dev nD) : V1 m c main_v23 = truncf (F := Ideal) .bf16 (m ((c : Thread nD τ).loc main_arg1)) bitsLt_bf16_f32 := by
  after_results_simp

/-- The output matrix: the device's block of it. -/
theorem host_wo (c : Dev nD) : V1 m c main_v24 = truncf (F := Ideal) .bf16 (m ((c : Thread nD τ).loc main_arg4)) bitsLt_bf16_f32 := by
  after_results_simp

/-- Where device `c`'s heads start among the keys and the values. -/
def starts (c : Dev nD) : Fin 4 → Int := ![0, 0, ((8 * c.val : ℕ) : Int), 0]

/-- The first head of a device as the host computes it. -/
theorem start_word : ∀ c : Dev nD,
    BitVec.toInt (Scalar.select (IntOp.cmpi .slt (IntOp.muli (IntOp.remui .host (IntOp.divui .host (Dev.word c) 1#32) 8#32) 8#32) 0#32)
      (IntOp.addi (IntOp.muli (IntOp.remui .host (IntOp.divui .host (Dev.word c) 1#32) 8#32) 8#32) 64#32)
      (IntOp.muli (IntOp.remui .host (IntOp.divui .host (Dev.word c) 1#32) 8#32) 8#32)) = ((8 * c.val : ℕ) : Int) := by decide +kernel

/-- The heads from `st` on of an array of keys or values, the head axis first, at the kernel's precision. -/
abbrev headsOf (st : Fin 4 → Int) (K : S1x4096x64x128.Idx → EReal) : FVec Ideal S8x2048x128 .bf16 :=
  truncf (F := Ideal) (φ := .f32) .bf16 (transpose S8x2048x128 [1, 0, 2] (shapeCast S2048x8x128
    (Host.dynamicSlice S1x2048x8x128 K st sliceFits_S1x4096x64x128_S1x2048x8x128)
      shapeCasts_S1x2048x8x128_S2048x8x128) transposes_S2048x8x128_S8x2048x128_1_0_2) bitsLt_bf16_f32

/-- The keys: the device's heads of them. -/
theorem host_k (c : Dev nD) : V1 m c main_v18 = headsOf (starts c) (m ((c : Thread nD τ).loc main_arg2)) := by
  after_results_simp
  refine congrArg (fun st => headsOf st (m ((c : Thread nD τ).loc main_arg2))) (funext fun k => ?_)
  match k with
  | 0 => after_results_simp; rfl
  | 1 => rfl
  | 2 => exact start_word c
  | 3 => rfl

/-- The values: the device's heads of them. -/
theorem host_v (c : Dev nD) : V1 m c main_v20 = headsOf (starts c) (m ((c : Thread nD τ).loc main_arg3)) := by
  after_results_simp
  refine congrArg (fun st => headsOf st (m ((c : Thread nD τ).loc main_arg3))) (funext fun k => ?_)
  match k with
  | 0 => after_results_simp; rfl
  | 1 => rfl
  | 2 => exact start_word c
  | 3 => rfl

/-! ## What the kernel fetches is what the host left -/

/-- The rows are fetched whole, -/
theorem whole_0 : ∀ a, (cfg0.win 0).index t0_0 a = 0 := by decide +kernel
/-- and the query weights, -/
theorem whole_1 : ∀ a, (cfg0.win 1).index t0_0 a = 0 := by decide +kernel
/-- the keys, -/
theorem whole_2 : ∀ a, (cfg0.win 2).index t0_0 a = 0 := by decide +kernel
/-- the values, -/
theorem whole_3 : ∀ a, (cfg0.win 3).index t0_0 a = 0 := by decide +kernel
/-- and the output weights. -/
theorem whole_4 : ∀ a, (cfg0.win 4).index t0_0 a = 0 := by decide +kernel

/-- What is fetched of the rows is the host's cast of them, -/
theorem fetched_x (c : Dev nD) : (fetched m c 0 : S256x1024.Idx → EReal) = V1 m c main_v22 :=
  funext fun i => congrArg (V1 m c main_v22) (funext fun a => Fin.ext (Pipeline.Window.rect_emb_val_of_index_zero (cfg0.win 0) t0_0 a (whole_0 a) i))
/-- of the query weights theirs, -/
theorem fetched_wq (c : Dev nD) : (fetched m c 1 : S1024x1024.Idx → EReal) = V1 m c main_v23 :=
  funext fun i => congrArg (V1 m c main_v23) (funext fun a => Fin.ext (Pipeline.Window.rect_emb_val_of_index_zero (cfg0.win 1) t0_0 a (whole_1 a) i))
/-- of the keys the device's heads, -/
theorem fetched_k (c : Dev nD) : (fetched m c 2 : S8x2048x128.Idx → EReal) = V1 m c main_v18 :=
  funext fun i => congrArg (V1 m c main_v18) (funext fun a => Fin.ext (Pipeline.Window.rect_emb_val_of_index_zero (cfg0.win 2) t0_0 a (whole_2 a) i))
/-- of the values the device's heads, -/
theorem fetched_v (c : Dev nD) : (fetched m c 3 : S8x2048x128.Idx → EReal) = V1 m c main_v20 :=
  funext fun i => congrArg (V1 m c main_v20) (funext fun a => Fin.ext (Pipeline.Window.rect_emb_val_of_index_zero (cfg0.win 3) t0_0 a (whole_3 a) i))
/-- and of the output weights their cast. -/
theorem fetched_wo (c : Dev nD) : (fetched m c 4 : S1024x1024.Idx → EReal) = V1 m c main_v24 :=
  funext fun i => congrArg (V1 m c main_v24) (funext fun a => Fin.ext (Pipeline.Window.rect_emb_val_of_index_zero (cfg0.win 4) t0_0 a (whole_4 a) i))

/-! ## The kernel's inputs at coordinates -/

/-- Over the extended reals a change of precision leaves an element as it is. -/
theorem truncf_at {s : Shape} (x : FVec Ideal s .f32) (i : s.Idx) : (truncf (F := Ideal) .bf16 x bitsLt_bf16_f32 i : EReal) = x i := rfl

/-- A device's heads at coordinates. -/
theorem headsOf_apply (c : Dev nD) (K : S1x4096x64x128.Idx → EReal) (h : Fin 8) (j : Fin 2048) (k : Fin 128) :
    (headsOf (starts c) K (ix3 h j k) : EReal) = K (ix4 (0 : Fin 1) (keyRow j) (headNo c h) k) := by
  unfold headsOf
  rw [truncf_at]
  refine (transpose_apply [1, 0, 2] _ transposes_S2048x8x128_S8x2048x128_1_0_2 (ix3 h j k) (ix3 j h k)
    (fun b => match b with | ⟨0, _⟩ => rfl | ⟨1, _⟩ => rfl | ⟨2, _⟩ => rfl)).trans ?_
  rw [shapeCast_1abc_abc_apply]
  have hs : S1x4096x64x128.Slices ![0, 0, 8 * c.val, 0] S1x2048x8x128 := by revert c; decide +kernel
  rw [Host.dynamicSlice_eq_extractStridedSlice S1x2048x8x128 K (starts c) ![0, 0, 8 * c.val, 0] _ hs
    (fun a => by match a with | 0 => rfl | 1 => rfl | 2 => rfl | 3 => rfl)]
  refine congrArg K (funext fun a => Fin.ext ?_)
  match a with
  | 0 => rfl
  | 1 => show 0 + j.val = j.val; omega
  | 2 => show 8 * c.val + h.val = c.val * 8 + h.val; omega
  | 3 => show 0 + k.val = k.val; omega

/-- The rows at coordinates. -/
theorem ins_x (c : Dev nD) (r : Fin 256) (i : Fin 1024) :
    ((insOf m).x c (ix2 r i) : EReal) = m ((c : Thread nD τ).loc main_arg0) (ix3 (0 : Fin 1) r i) := by
  refine (congrFun ((fetched_x m c).trans (host_x m c)) (ix2 r i)).trans ?_
  exact shapeCast_1ab_ab_apply (m ((c : Thread nD τ).loc main_arg0)) _ _ _
/-- The query matrix at coordinates. -/
theorem ins_wq (c : Dev nD) (i n : Fin 1024) : ((insOf m).wq c (ix2 i n) : EReal) = m ((c : Thread nD τ).loc main_arg1) (ix2 i n) :=
  congrFun ((fetched_wq m c).trans (host_wq m c)) (ix2 i n)
/-- The output matrix at coordinates. -/
theorem ins_wo (c : Dev nD) (i n : Fin 1024) : ((insOf m).wo c (ix2 i n) : EReal) = m ((c : Thread nD τ).loc main_arg4) (ix2 i n) :=
  congrFun ((fetched_wo m c).trans (host_wo m c)) (ix2 i n)
/-- The keys at coordinates. -/
theorem ins_k (c : Dev nD) (h : Fin 8) (j : Fin 2048) (k : Fin 128) :
    ((insOf m).k c (ix3 h j k) : EReal) = m ((c : Thread nD τ).loc main_arg2) (ix4 (0 : Fin 1) (keyRow j) (headNo c h) k) :=
  (congrFun ((fetched_k m c).trans (host_k m c)) (ix3 h j k)).trans (headsOf_apply c _ h j k)
/-- The values at coordinates. -/
theorem ins_v (c : Dev nD) (h : Fin 8) (j : Fin 2048) (k : Fin 128) :
    ((insOf m).v c (ix3 h j k) : EReal) = m ((c : Thread nD τ).loc main_arg3) (ix4 (0 : Fin 1) (keyRow j) (headNo c h) k) :=
  (congrFun ((fetched_v m c).trans (host_v m c)) (ix3 h j k)).trans (headsOf_apply c _ h j k)

/-! ## What is taken from the kernel -/

/-- The output window's view of its array is the array. -/
theorem out_cell (G : S256x1024.Idx → Elt Ideal .f32) (j : (cfg0.win 5).shape.Idx) (h : ∀ a, (j a).val < (cfg0.win 5).size a) :
    _root_.cast (congrArg (Elt Ideal) (cfg0.win 5).arr.view.elt_eq.symm) (G fun a => ⟨(j a).val, h a⟩) = G ((cfg0.win 5).arr.view.emb j) := rfl

/-- What the body leaves in the output's staging buffer. -/
theorem after_out (c : Dev nD) : (dat0 m c).after 5 t0_0 = outV (insOf m) c := rfl

/-- The output array ends as the block the kernel wrote. -/
theorem arr_out (c : Dev nD) : (dat0 m c).arrAt 5 cfg0.N = outV (insOf m) c :=
  Pipeline.Dat.arrAt_eq_of_after_last (dat0 m c) 5 t0_0 (by decide +kernel) _ fun j => out_cell (outV (insOf m) c) j _

/-- The result: that block with a unit axis in front. -/
theorem result_eq (c : Dev nD) : V3 m (outsOf m) c main_v26 = shapeCast S1x256x1024 (outV (insOf m) c) shapeCasts_S256x1024_S1x256x1024 := by
  have e : V2 m (outsOf m) c (Proc.devRef .tc main_v25) = outV (insOf m) c := by
    show Function.update (V1 m c) (Proc.devRef .tc main_v25) (outsOf m 2 main_v25 c) (Proc.devRef .tc main_v25) = _
    rw [Function.update_self, outsOf_eq, arr_out]
  after_results_simp
  exact congrArg (fun v : S256x1024.Idx → EReal => shapeCast S1x256x1024 v shapeCasts_S256x1024_S1x256x1024) e

end Cert.Proof

end
-- ==== Proof.RefVal.lean ====
/- The reference's result, read at an index over the extended reals. -/
module

public import proofs.«01_k».proof.Proof.HeadVal
public import proofs.«01_k».proof.Proof.Gen.ReferenceIdeal.Read

@[expose] public section

noncomputable section

namespace Cert.Proof

open Idealize.ShloMosaic Idealize.ShloMosaic.ValueIdx
open Cert.ReferenceIdeal Cert.ReferenceIdeal.Gen Cert.ReferenceIdeal.Read
open scoped BigOperators

/-- Column `k` of head `hh` among all the columns. -/
def wholeCol (hh : Fin 64) (k : Fin 128) : Fin 8192 := ⟨hh.val * 128 + k.val, by have := hh.isLt; have := k.isLt; omega⟩

/-! ## The mask -/

/-- A word's sign. -/
def signOf (x : BitVec 32) : BitVec 32 := if x = 0 then 0 else if x.msb then -1 else 1

/-- The block of a row or column number, as the reference computes it: division by 64 rounded down. -/
def floorBlock (x : BitVec 32) : BitVec 32 :=
  Scalar.select (IntOp.andi (IntOp.cmpi .ne (signOf x) (signOf 64#32)) (IntOp.cmpi .ne (IntOp.remsi .host x 64#32) 0#32))
    (IntOp.subi (IntOp.divsi .host x 64#32) 1#32) (IntOp.divsi .host x 64#32)

/-- Of a number below 4096 that is its quotient by 64. -/
theorem floorBlock_ofNat : ∀ k : Fin 4096, floorBlock (BitVec.ofNat 32 k.val) = BitVec.ofNat 32 (k.val / 64) := by decide +kernel

/-- A row's block number. -/
theorem v3_apply (i : Fin 2048) : val_main_v3 (F := Ideal) (ix1 i) = BitVec.ofNat 32 (i.val / 64) :=
  (show val_main_v3 (F := Ideal) (ix1 i) = floorBlock (BitVec.ofNat 32 i.val) from rfl).trans (floorBlock_ofNat (keyRow i))

/-- A column's block number. -/
theorem v6_apply (j : Fin 4096) : val_main_v6 (F := Ideal) (ix1 j) = BitVec.ofNat 32 (j.val / 64) :=
  (show val_main_v6 (F := Ideal) (ix1 j) = floorBlock (BitVec.ofNat 32 j.val) from rfl).trans (floorBlock_ofNat j)

/-- Column `j` is kept for row `i` just if its block of 64 columns is not after the row's block. -/
theorem v10_apply (i : Fin 2048) (j : Fin 4096) :
    val_main_v10 (F := Ideal) (ix2 i j) = if j.val / 64 ≤ i.val / 64 then 1#1 else 0#1 := by
  have hi := i.isLt
  have hj := j.isLt
  have e8 : idx_main_v7 (idx_main_v8 (ix2 i j)) = ix1 j := funext fun a => match a with | ⟨0, _⟩ => rfl
  have e9 : idx_main_v4 (idx_main_v9 (ix2 i j)) = ix1 i := funext fun a => match a with | ⟨0, _⟩ => rfl
  rw [val_main_v10_apply, val_main_v8_apply, val_main_v7_apply, val_main_v9_apply, val_main_v4_apply, e8, e9, v6_apply, v3_apply]
  exact sle_ofNat ⟨j.val / 64, by omega⟩ ⟨i.val / 64, by omega⟩

/-- A fold by "or" over a set that holds the number 0 is 1 if the function is 1 there. -/
theorem fold_ori (f : Fin 4096 → BitVec 1) (h0 : f 0 = 1#1) (s : Finset (Fin 4096)) (b : BitVec 1) (hs : (0 : Fin 4096) ∈ s) :
    s.fold IntOp.ori b f = 1#1 := by
  rw [← Finset.insert_erase hs, Finset.fold_insert (Finset.notMem_erase _ _), h0]
  generalize (s.erase (0 : Fin 4096)).fold IntOp.ori b f = y
  revert y
  decide

/-- Every row keeps a column. -/
theorem v21_apply (i : Fin 2048) : val_main_v21 (F := Ideal) (ix1 i) = 1#1 := by
  have hr : S2048x4096.Reduces [1] S2048 := by decide
  unfold val_main_v21
  rw [Host.reduce_eq_fold_single IntOp.ori _ _ reducesTo_S2048x4096_S2048_d1 hr]
  have h0 : (val_main_v10 (F := Ideal) ∘ hr.lift (ix1 i)) (0 : Fin 4096) = 1#1 := by
    have e : hr.lift (ix1 i) (0 : Fin 4096) = ix2 i (0 : Fin 4096) := funext fun a => match a with | ⟨0, _⟩ => rfl | ⟨1, _⟩ => rfl
    show val_main_v10 (F := Ideal) (hr.lift (ix1 i) (0 : Fin 4096)) = 1#1
    rw [e, v10_apply]
    exact if_pos (Nat.zero_le _)
  generalize (val_main_v10 (F := Ideal) ∘ hr.lift (ix1 i)) = f at h0
  exact fold_ori f h0 Finset.univ _ (Finset.mem_univ _)

section
variable (x0 : S1x2048x1024.Idx → EReal) (x1 : S1024x8192.Idx → EReal) (x2 x3 : S1x4096x64x128.Idx → EReal) (x4 : S8192x1024.Idx → EReal)

/-! ## The scores -/

/-- A query's element: row `i`, column `k` of head `hh`. -/
def wholeQ (i : Fin 2048) (hh : Fin 64) (k : Fin 128) : EReal := ∑ n : Fin 1024, x0 (ix3 (0 : Fin 1) i n) * x1 (ix2 n (wholeCol hh k))

/-- A row of masked scores. -/
def wholeScore (i : Fin 2048) (hh : Fin 64) (j : Fin 4096) : EReal :=
  if j.val / 64 ≤ i.val / 64 then (∑ k : Fin 128, wholeQ x0 x1 i hh k * x2 (ix4 (0 : Fin 1) j hh k)) * scale else ⊥

/-- The projected rows by heads. -/
theorem v1_apply (i : Fin 2048) (hh : Fin 64) (k : Fin 128) :
    val_main_v1 (F := Ideal) x0 x1 (ix4 (0 : Fin 1) i hh k) = wholeQ x0 x1 i hh k := by
  have hi := i.isLt
  have hh' := hh.isLt
  have hk := k.isLt
  rw [val_main_v1_apply, val_main_v0_apply]
  unfold wholeQ
  refine Finset.sum_congr rfl fun n _ => congrArg₂ (· * ·) (congrArg x0 ?_) (congrArg x1 ?_)
  · funext a
    apply Fin.ext
    match a with
    | ⟨0, _⟩ => rfl
    | ⟨1, _⟩ => show (((0 * 2048 + i.val) * 64 + hh.val) * 128 + k.val) / 8192 % 2048 = i.val; omega
    | ⟨2, _⟩ => rfl
  · funext a
    apply Fin.ext
    match a with
    | ⟨0, _⟩ => rfl
    | ⟨1, _⟩ => show (((0 * 2048 + i.val) * 64 + hh.val) * 128 + k.val) % 8192 = hh.val * 128 + k.val; omega

/-- The masked scores. -/
theorem v15_apply (i : Fin 2048) (hh : Fin 64) (j : Fin 4096) :
    val_main_v15 (F := Ideal) x0 x1 x2 (ix4 (0 : Fin 1) hh i j) = wholeScore x0 x1 x2 i hh j := by
  have e14 : idx_main_v14 (idx_main_call2_v1 (ix4 (0 : Fin 1) hh i j)) = ix2 i j :=
    funext fun a => match a with | ⟨0, _⟩ => rfl | ⟨1, _⟩ => rfl
  have e13 : (val_main_v13 (F := Ideal) x0 x1 x2 (ix4 (0 : Fin 1) hh i j) : EReal)
      = (∑ k : Fin 128, wholeQ x0 x1 i hh k * x2 (ix4 (0 : Fin 1) j hh k)) * scale := by
    rw [val_main_v13_apply, val_main_v12_apply, val_main_v11_apply]
    refine congrArg (fun y : EReal => y * scale) (Finset.sum_congr rfl fun k _ => congrArg₂ (· * ·) ?_ (congrArg x2 ?_))
    · rw [← v1_apply]
      exact congrArg (val_main_v1 (F := Ideal) x0 x1) (eq_ix4 _)
    · exact eq_ix4 _
  have en : (val_main_call2_v2 (F := Ideal) (ix4 (0 : Fin 1) hh i j) : EReal) = ⊥ := by
    rw [val_main_call2_v2_apply]
    exact ofBits_neg_inf
  rw [val_main_v15_apply, val_main_call2_v1_apply, val_main_v14_apply, e14, v10_apply, e13, en]
  unfold wholeScore
  split <;> rfl

/-! ## The weights -/

/-- A fold of the greater of two from −∞ is the greatest. -/
theorem fold_top {n : ℕ} (b : EReal) (f g : Fin n → EReal) (hb : b = ⊥) (hf : ∀ j, f j = g j) :
    (Finset.univ : Finset (Fin n)).fold (FloatOps.maximumf (F := Ideal) (φ := .f32)) b f = top g := by
  obtain rfl : f = g := funext hf
  subst hb
  rfl

/-- The greatest score of a row, whatever the scores. -/
theorem reduce_top (y : S1x64x2048x4096.Idx → EReal) (z : S_.Idx → EReal) (g : Fin 4096 → EReal) (i : Fin 2048) (hh : Fin 64)
    (hz : z (Shape.Idx.first h_S_) = ⊥) (hy : ∀ j : Fin 4096, y (ix4 (0 : Fin 1) hh i j) = g j) :
    Host.reduce (FloatOps.maximumf (F := Ideal) (φ := .f32)) y z reducesTo_S1x64x2048x4096_S1x64x2048_d3 h_S_ (ix3 (0 : Fin 1) hh i) = top g := by
  have hr : S1x64x2048x4096.Reduces [3] S1x64x2048 := by decide
  rw [Host.reduce_eq_fold_single _ _ _ reducesTo_S1x64x2048x4096_S1x64x2048_d3 hr]
  refine fold_top (n := 4096) _ _ g hz fun j => ?_
  have e : hr.lift (ix3 (0 : Fin 1) hh i) j = ix4 (0 : Fin 1) hh i j :=
    funext fun a => match a with | ⟨0, _⟩ => rfl | ⟨1, _⟩ => rfl | ⟨2, _⟩ => rfl | ⟨3, _⟩ => rfl
  exact (congrArg y e).trans (hy j)

/-- The greatest score of a row. -/
theorem v16_apply (i : Fin 2048) (hh : Fin 64) :
    (val_main_v16 (F := Ideal) x0 x1 x2 (ix3 (0 : Fin 1) hh i) : EReal) = top (wholeScore x0 x1 x2 i hh) := by
  unfold val_main_v16
  exact reduce_top _ _ _ i hh ofBits_neg_inf (v15_apply x0 x1 x2 i hh)

/-- A numerator. -/
theorem v20_apply (i : Fin 2048) (hh : Fin 64) (j : Fin 4096) :
    (val_main_v20 (F := Ideal) x0 x1 x2 (ix4 (0 : Fin 1) hh i j) : EReal) = num (wholeScore x0 x1 x2 i hh) j := by
  have e : idx_main_v17 (idx_main_v18 (ix4 (0 : Fin 1) hh i j)) = ix3 (0 : Fin 1) hh i :=
    funext fun a => match a with | ⟨0, _⟩ => rfl | ⟨1, _⟩ => rfl | ⟨2, _⟩ => rfl
  rw [val_main_v20_apply, val_main_v19_apply, val_main_v18_apply, val_main_v17_apply, e, v16_apply, v15_apply]
  rfl

/-- A row's sum of numerators. -/
theorem v25_apply (i : Fin 2048) (hh : Fin 64) (z : S1x64x2048x1.Idx) (hz : z = ix4 (0 : Fin 1) hh i (0 : Fin 1)) :
    (val_main_v25 (F := Ideal) x0 x1 x2 z : EReal) = den (wholeScore x0 x1 x2 i hh) := by
  subst hz
  have e22 : idx_main_v22 (idx_main_call3_v1 (ix4 (0 : Fin 1) hh i (0 : Fin 1))) = ix1 i := funext fun a => match a with | ⟨0, _⟩ => rfl
  have e24 : idx_main_v24 (ix4 (0 : Fin 1) hh i (0 : Fin 1)) = ix3 (0 : Fin 1) hh i :=
    funext fun a => match a with | ⟨0, _⟩ => rfl | ⟨1, _⟩ => rfl | ⟨2, _⟩ => rfl
  have e0 : (val_main_cst_4 (F := Ideal) (Shape.Idx.first h_S_) : EReal) = 0 := Ideal.ofBits_zero_f32
  rw [val_main_v25_apply, val_main_call3_v1_apply, val_main_v22_apply, e22, v21_apply, val_main_v24_apply, e24, val_main_v23_apply, e0]
  show (0 : EReal) + _ = _
  rw [zero_add]
  unfold den
  exact Finset.sum_congr rfl fun j _ => (congrArg (val_main_v20 (F := Ideal) x0 x1 x2) (eq_ix4 _)).trans (v20_apply x0 x1 x2 i hh j)

/-- A weight. -/
theorem v29_apply (i : Fin 2048) (hh : Fin 64) (j : Fin 4096) :
    (val_main_v29 (F := Ideal) x0 x1 x2 (ix4 (0 : Fin 1) hh i j) : EReal)
      = Ideal.div (num (wholeScore x0 x1 x2 i hh) j) (den (wholeScore x0 x1 x2 i hh)) := by
  have e28 : idx_main_v28 (idx_main_call4_v1 (ix4 (0 : Fin 1) hh i j)) = ix1 i := funext fun a => match a with | ⟨0, _⟩ => rfl
  rw [val_main_v29_apply, val_main_call4_v1_apply, val_main_v28_apply, e28, v21_apply, val_main_v27_apply, v20_apply, val_main_v26_apply,
    v25_apply x0 x1 x2 i hh _ (eq_ix4 _)]
  rfl

/-! ## The result -/

/-- The attention of head `hh` at row `i` and column `k`. -/
theorem v31_apply (i : Fin 2048) (hh : Fin 64) (k : Fin 128) :
    (val_main_v31 (F := Ideal) x0 x1 x2 x3 (ix4 (0 : Fin 1) i hh k) : EReal)
      = weigh (wholeScore x0 x1 x2 i hh) fun j => x3 (ix4 (0 : Fin 1) j hh k) := by
  rw [val_main_v31_apply, val_main_v30_apply]
  unfold weigh
  refine Finset.sum_congr rfl fun j _ => ?_
  rw [← v29_apply]
  refine (mul_comm _ _).trans (congrArg₂ (fun a b : EReal => a * b) (congrArg (val_main_v29 (F := Ideal) x0 x1 x2) (eq_ix4 _)) (congrArg x3 (eq_ix4 _)))

/-- The result as a sum over the heads. -/
theorem v33_apply (i : Fin 2048) (e : Fin 1024) :
    (val_main_v33 (F := Ideal) x0 x1 x2 x3 x4 (ix3 (0 : Fin 1) i e) : EReal)
      = ∑ hh : Fin 64, ∑ k : Fin 128, weigh (wholeScore x0 x1 x2 i hh) (fun j => x3 (ix4 (0 : Fin 1) j hh k)) * x4 (ix2 (wholeCol hh k) e) := by
  have hi := i.isLt
  rw [val_main_v33_apply, ← (finProdFinEquiv (m := 64) (n := 128)).sum_comp, Fintype.sum_prod_type]
  refine Finset.sum_congr rfl fun hh _ => Finset.sum_congr rfl fun k _ => ?_
  have hh' := hh.isLt
  have hk := k.isLt
  have hn : (finProdFinEquiv (hh, k) : Fin (64 * 128)).val = k.val + 128 * hh.val := rfl
  generalize (finProdFinEquiv (hh, k) : Fin (64 * 128)) = n at hn
  refine congrArg₂ (fun a b : EReal => a * b) ?_ (congrArg x4 ?_)
  · rw [val_main_v32_apply, ← v31_apply]
    refine congrArg (val_main_v31 (F := Ideal) x0 x1 x2 x3) (funext fun a => Fin.ext ?_)
    match a with
    | ⟨0, _⟩ => rfl
    | ⟨1, _⟩ => show ((0 * 2048 + i.val) * 8192 + n.val) / 8192 % 2048 = i.val; omega
    | ⟨2, _⟩ => show ((0 * 2048 + i.val) * 8192 + n.val) / 128 % 64 = hh.val; omega
    | ⟨3, _⟩ => show ((0 * 2048 + i.val) * 8192 + n.val) % 128 = k.val; omega
  · funext a
    apply Fin.ext
    match a with
    | ⟨0, _⟩ => show n.val = hh.val * 128 + k.val; omega
    | ⟨1, _⟩ => rfl

end

end Cert.Proof

end
-- ==== Proof.Finite.lean ====
/- With finite queries and keys the columns the kernel never reads weigh nothing in the reference. -/
module

public import proofs.«01_k».proof.Proof.RefVal
public import proofs.«01_k».proof.Defs

@[expose] public section

noncomputable section

namespace Cert.Proof

open Idealize.ShloMosaic Idealize.ShloMosaic.ValueIdx
open scoped BigOperators

/-! ## Real numbers among the extended reals -/

/-- The extended real is a real number. -/
def IsReal (x : EReal) : Prop := ∃ r : ℝ, x = (r : EReal)

/-- A real number is not +∞. -/
theorem IsReal.ne_top {x : EReal} (h : IsReal x) : x ≠ ⊤ := by
  obtain ⟨r, rfl⟩ := h
  exact EReal.coe_ne_top r

/-- A real number is not −∞. -/
theorem IsReal.ne_bot {x : EReal} (h : IsReal x) : x ≠ ⊥ := by
  obtain ⟨r, rfl⟩ := h
  exact EReal.coe_ne_bot r

/-- A product of real numbers is real. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of real numbers is real. -/
theorem IsReal.sum {n : ℕ} (f : Fin n → EReal) (h : ∀ i, IsReal (f i)) : IsReal (∑ i, f i) := by
  refine Finset.sum_induction f IsReal (fun x y hx hy => ?_) ⟨0, EReal.coe_zero.symm⟩ fun i _ => h i
  obtain ⟨a, rfl⟩ := hx
  obtain ⟨b, rfl⟩ := hy
  exact ⟨a + b, (EReal.coe_add a b).symm⟩

/-- The scale is a real number. -/
theorem scale_real : IsReal scale := ⟨_, rfl⟩

/-- An extended real whose absolute value compares below +∞ is a real number. -/
theorem real_of_abs_lt (x : EReal) (h : Ideal.cmp .olt (max x (-x)) (Ideal.ofBits .f32 0x7F800000#32) = 1#1) : IsReal x := by
  have htop : Ideal.ofBits .f32 0x7F800000#32 = (⊤ : EReal) := by simp [Ideal.ofBits, Ideal.ieee]
  rw [htop] at h
  induction x using EReal.rec with
  | bot => simp [Ideal.cmp] at h
  | coe r => exact ⟨r, rfl⟩
  | top => simp [Ideal.cmp] at h

/-! ## The precondition -/

/-- The side conditions of the precondition at the kernel's blocks. -/
theorem factsK : Cert.Pre_scores_finite_KernelIdeal.Facts := ⟨by decide, by decide, by decide, by decide⟩

/-- The side conditions of the precondition at the reference's arrays. -/
theorem factsR : Cert.Pre_scores_finite_ReferenceIdeal.Facts := ⟨by decide, by decide, by decide, by decide⟩

section
attribute [local instance] factsK
open Cert.Pre_scores_finite_KernelIdeal

variable (x0 : S1x256x1024.Idx → EReal) (x1 : S1024x1024.Idx → EReal) (x2 x3 : S1x4096x64x128.Idx → EReal) (x4 : S1024x1024.Idx → EReal)

/-- The precondition's first part: the input rows are real. -/
theorem pre_x (h : (fn (F := Ideal) x0 x1 x2 x3 x4).1 = fun _ => 1#1) (i : S1x256x1024.Idx) : IsReal (x0 i) :=
  real_of_abs_lt _ (congrFun h i)

/-- Its second part: the query weights are real. -/
theorem pre_wq (h : (fn (F := Ideal) x0 x1 x2 x3 x4).2.1 = fun _ => 1#1) (i : S1024x1024.Idx) : IsReal (x1 i) :=
  real_of_abs_lt _ (congrFun h i)

/-- Its third part: the first 2048 rows of keys are real. -/
theorem pre_k (h : (fn (F := Ideal) x0 x1 x2 x3 x4).2.2 = fun _ => 1#1) (j : Fin 2048) (hh : Fin 64) (k : Fin 128) :
    IsReal (x2 (ix4 (0 : Fin 1) (keyRow j) hh k)) := by
  refine real_of_abs_lt _ ((congrArg (fun y => Ideal.cmp .olt (max (x2 y) (-(x2 y))) (Ideal.ofBits .f32 0x7F800000#32)) ?_).trans
    (congrFun h (ix4 (0 : Fin 1) j hh k)))
  funext a
  apply Fin.ext
  match a with
  | ⟨0, _⟩ => rfl
  | ⟨1, _⟩ => show j.val = 0 + j.val; omega
  | ⟨2, _⟩ => show hh.val = 0 + hh.val; omega
  | ⟨3, _⟩ => show k.val = 0 + k.val; omega

end

/-! ## The reference's result -/

section
open Cert.ReferenceIdeal Cert.ReferenceIdeal.Read
variable (x0 : S1x2048x1024.Idx → EReal) (x1 : S1024x8192.Idx → EReal) (x2 x3 : S1x4096x64x128.Idx → EReal) (x4 : S8192x1024.Idx → EReal)
variable (hx : ∀ i n, IsReal (x0 (ix3 (0 : Fin 1) i n))) (hq : ∀ n k, IsReal (x1 (ix2 n k)))
  (hk : ∀ (j : Fin 2048) hh k, IsReal (x2 (ix4 (0 : Fin 1) (keyRow j) hh k)))

include hx hq hk

/-- A score in the first 2048 columns, before masking, is real. -/
theorem score_real (i : Fin 2048) (hh : Fin 64) (j : Fin 2048) :
    IsReal ((∑ k : Fin 128, wholeQ x0 x1 i hh k * x2 (ix4 (0 : Fin 1) (keyRow j) hh k)) * scale) :=
  (IsReal.sum _ fun k => (IsReal.sum _ fun n => (hx i n).mul (hq n _)).mul (hk j hh k)).mul scale_real

/-- The weights reach the first 2048 rows of values only. -/
theorem weigh_reach (i : Fin 2048) (hh : Fin 64) (v : Fin 4096 → EReal) :
    weigh (wholeScore x0 x1 x2 i hh) v = weigh (fun j : Fin 2048 => wholeScore x0 x1 x2 i hh (keyRow j)) (fun j => v (keyRow j)) := by
  have hi := i.isLt
  refine weigh_pad (n := 2048) (p := 2048) (wholeScore x0 x1 x2 i hh) v (fun j => ?_) (fun j => ?_) ⟨0, ?_⟩
  · exact if_neg (by show ¬ (2048 + j.val) / 64 ≤ i.val / 64; omega)
  · unfold wholeScore
    split
    · rename_i hj
      exact (score_real x0 x1 x2 hx hq hk i hh ⟨j.val, by omega⟩).ne_top
    · exact bot_ne_top
  · refine ne_of_eq_of_ne (if_pos (Nat.zero_le _)) ?_
    exact (score_real x0 x1 x2 hx hq hk i hh 0).ne_bot

/-- The reference's result, by devices' heads. -/
theorem ref_out (i : Fin 2048) (e : Fin 1024) :
    (val_main_v33 (F := Ideal) x0 x1 x2 x3 x4 (ix3 (0 : Fin 1) i e) : EReal)
      = ∑ d : Fin 8, ∑ h : Fin 8, ∑ k : Fin 128,
          weigh (fun j : Fin 2048 => wholeScore x0 x1 x2 i (headNo d h) (keyRow j)) (fun j => x3 (ix4 (0 : Fin 1) (keyRow j) (headNo d h) k))
            * x4 (ix2 (wholeCol (headNo d h) k) e) := by
  rw [v33_apply, ← (finProdFinEquiv (m := 8) (n := 8)).sum_comp, Fintype.sum_prod_type]
  refine Finset.sum_congr rfl fun d _ => Finset.sum_congr rfl fun h _ => ?_
  have hn : finProdFinEquiv (d, h) = headNo d h := Fin.ext (by show h.val + 8 * d.val = d.val * 8 + h.val; omega)
  rw [hn]
  exact Finset.sum_congr rfl fun k _ => congrArg (fun y : EReal => y * x4 (ix2 (wholeCol (headNo d h) k) e))
    (weigh_reach x0 x1 x2 hx hq hk i (headNo d h) _)

end

end Cert.Proof

end
-- ==== Proof.Algebra.lean ====
/- The kernel's result is the reference's, over the extended reals. -/
module

public import proofs.«01_k».proof.Proof.HostVal
public import proofs.«01_k».proof.Proof.Finite
public import proofs.«01_k».proof.Proof.Frames

@[expose] public section

noncomputable section

namespace Cert.Proof

open Idealize.ShloMosaic Idealize.ShloMosaic.ValueIdx Idealize.SL.Sem Idealize.ShloMosaic.TcCoe Cert.KernelIdeal Cert.KernelIdeal.Gen
open scoped BigOperators

/-- Row `r` of device `c`'s block among all the rows. -/
def rowNo (c : Fin 8) (r : Fin 256) : Fin 2048 := ⟨c.val * 256 + r.val, by have := c.isLt; have := r.isLt; omega⟩

/-! ## Where a block's element lies in the whole array -/

section
variable {α : Type}

/-- A block of rows of a [1, 2048, 1024] array. -/
theorem block_rows3 (c : Fin 8) (v : (⟨3, ![1, 2048, 1024]⟩ : Shape).Idx → α) (r : Fin 256) (i : Fin 1024) :
    Layout.block ⟨3, ![1, 256, 1024]⟩ ⟨3, ![1, 2048, 1024]⟩ 1 8 c v (by decide) (ix3 (0 : Fin 1) r i) = v (ix3 (0 : Fin 1) (rowNo c r) i) := by
  rw [Layout.block_apply]
  refine congrArg v (funext fun a => Fin.ext ?_)
  match a with
  | ⟨0, _⟩ => rfl
  | ⟨1, _⟩ => rfl
  | ⟨2, _⟩ => rfl

/-- A block of columns of a [1024, 8192] array, by heads. -/
theorem block_cols (c : Fin 8) (v : (⟨2, ![1024, 8192]⟩ : Shape).Idx → α) (i : Fin 1024) (h : Fin 8) (k : Fin 128) :
    Layout.block ⟨2, ![1024, 1024]⟩ ⟨2, ![1024, 8192]⟩ 1 8 c v (by decide) (ix2 i (col h k)) = v (ix2 i (wholeCol (headNo c h) k)) := by
  rw [Layout.block_apply]
  refine congrArg v (funext fun a => Fin.ext ?_)
  match a with
  | ⟨0, _⟩ => rfl
  | ⟨1, _⟩ => show c.val * 1024 + (h.val * 128 + k.val) = (c.val * 8 + h.val) * 128 + k.val; omega

/-- A block of rows of an [8192, 1024] array, by heads. -/
theorem block_rows (c : Fin 8) (v : (⟨2, ![8192, 1024]⟩ : Shape).Idx → α) (h : Fin 8) (k : Fin 128) (e : Fin 1024) :
    Layout.block ⟨2, ![1024, 1024]⟩ ⟨2, ![8192, 1024]⟩ 0 8 c v (by decide) (ix2 (col h k) e) = v (ix2 (wholeCol (headNo c h) k) e) := by
  rw [Layout.block_apply]
  refine congrArg v (funext fun a => Fin.ext ?_)
  match a with
  | ⟨0, _⟩ => show c.val * 1024 + (h.val * 128 + k.val) = (c.val * 8 + h.val) * 128 + k.val; omega
  | ⟨1, _⟩ => rfl

/-- Every row of a [1, 2048, 1024] array is in a device's block. -/
theorem rowNo_surj (i : Fin 2048) : ∃ c r, rowNo c r = i :=
  ⟨⟨i.val / 256, by have := i.isLt; omega⟩, ⟨i.val % 256, by omega⟩, Fin.ext (by show i.val / 256 * 256 + i.val % 256 = i.val; omega)⟩

/-- Every column of a [1024, 8192] array is a head's column of a device. -/
theorem wholeCol_surj (n : Fin 8192) : ∃ c h k, wholeCol (headNo c h) k = n :=
  ⟨⟨n.val / 1024, by have := n.isLt; omega⟩, ⟨n.val / 128 % 8, by omega⟩, ⟨n.val % 128, by omega⟩,
    Fin.ext (by show (n.val / 1024 * 8 + n.val / 128 % 8) * 128 + n.val % 128 = n.val; omega)⟩

end

/-! ## The kernel's result over the whole arrays -/

section
variable (m : (ℓ : Loc nD τ sig) → Buf (Elt Ideal) ℓ)
variable (x0 : (⟨3, ![1, 2048, 1024]⟩ : Shape).Idx → EReal) (x1 : (⟨2, ![1024, 8192]⟩ : Shape).Idx → EReal)
  (x2 x3 : (⟨4, ![1, 4096, 64, 128]⟩ : Shape).Idx → EReal) (x4 : (⟨2, ![8192, 1024]⟩ : Shape).Idx → EReal)
variable (h0 : ∀ c : Dev nD, m ((c : Thread nD τ).loc main_arg0) = Layout.block ⟨3, ![1, 256, 1024]⟩ ⟨3, ![1, 2048, 1024]⟩ 1 8 c x0 (by decide))
  (h1 : ∀ c : Dev nD, m ((c : Thread nD τ).loc main_arg1) = Layout.block ⟨2, ![1024, 1024]⟩ ⟨2, ![1024, 8192]⟩ 1 8 c x1 (by decide))
  (h2 : ∀ c : Dev nD, m ((c : Thread nD τ).loc main_arg2) = x2) (h3 : ∀ c : Dev nD, m ((c : Thread nD τ).loc main_arg3) = x3)
  (h4 : ∀ c : Dev nD, m ((c : Thread nD τ).loc main_arg4) = Layout.block ⟨2, ![1024, 1024]⟩ ⟨2, ![8192, 1024]⟩ 0 8 c x4 (by decide))

include h0 h1 in
/-- The queries of device `d`'s heads over device `c`'s rows. -/
theorem query_eq (d c : Dev nD) (r : Fin 256) (h : Fin 8) (k : Fin 128) :
    (k0_pay2 (F := Ideal) ((insOf m).x c) ((insOf m).wq d) (ix2 r (col h k)) : EReal) = wholeQ x0 x1 (rowNo c r) (headNo d h) k := by
  rw [projected_apply]
  unfold wholeQ
  refine Finset.sum_congr rfl fun n _ => congrArg₂ (fun a b : EReal => a * b) ?_ ?_
  · rw [ins_x, h0]
    exact block_rows3 c x0 r n
  · rw [ins_wq, h1]
    exact block_cols d x1 n h k

include h0 h1 h2 in
/-- The kernel's row of scores is the reference's, over the columns it reads. -/
theorem rowScore_eq (d c : Dev nD) (r : Fin 256) (h : Fin 8) :
    rowScore c.val r.val (fun k => k0_pay2 (F := Ideal) ((insOf m).x c) ((insOf m).wq d) (ix2 r (col h k))) (fun j k => (insOf m).k d (ix3 h j k))
      = fun j => wholeScore x0 x1 x2 (rowNo c r) (headNo d h) (keyRow j) := by
  funext j
  have e : (∑ k : Fin 128, (k0_pay2 (F := Ideal) ((insOf m).x c) ((insOf m).wq d) (ix2 r (col h k)) : EReal) * ((insOf m).k d (ix3 h j k) : EReal))
      = ∑ k : Fin 128, wholeQ x0 x1 (rowNo c r) (headNo d h) k * x2 (ix4 (0 : Fin 1) (keyRow j) (headNo d h) k) :=
    Finset.sum_congr rfl fun k _ => by rw [query_eq m x0 x1 h0 h1, ins_k, h2]
  unfold rowScore wholeScore
  exact congrArg (fun y : EReal => if j.val / 64 ≤ (c.val * 256 + r.val) / 64 then y * scale else ⊥) e

include h0 h1 h2 h3 h4 in
/-- An element of the kernel's result. -/
theorem kernel_out (c : Dev nD) (r : Fin 256) (e : Fin 1024) :
    (outV (insOf m) c (ix2 r e) : EReal) = ∑ d : Fin 8, ∑ h : Fin 8, ∑ k : Fin 128,
      weigh (fun j : Fin 2048 => wholeScore x0 x1 x2 (rowNo c r) (headNo d h) (keyRow j)) (fun j => x3 (ix4 (0 : Fin 1) (keyRow j) (headNo d h) k))
        * x4 (ix2 (wholeCol (headNo d h) k) e) := by
  rw [outV_apply]
  refine Finset.sum_congr rfl fun d _ => ?_
  unfold part
  refine Finset.sum_congr rfl fun h _ => ?_
  unfold headShare
  refine Finset.sum_congr rfl fun k _ => ?_
  rw [rowScore_eq m x0 x1 x2 h0 h1 h2]
  refine congrArg₂ (fun a b : EReal => a * b) (congrArg (weigh _) (funext fun j => ?_)) ?_
  · rw [ins_v, h3]
  · rw [ins_wo, h4]
    exact block_rows d x4 h k e

include h0 h1 h2 h3 h4 in
/-- With finite queries and keys each device's result is its block of the reference's result. -/
theorem result_block (hx : ∀ i n, IsReal (x0 (ix3 (0 : Fin 1) i n))) (hq : ∀ n k, IsReal (x1 (ix2 n k)))
    (hk : ∀ (j : Fin 2048) hh k, IsReal (x2 (ix4 (0 : Fin 1) (keyRow j) hh k))) (c : Dev nD) :
    V3 m (outsOf m) c main_v26 = Layout.block ⟨3, ![1, 256, 1024]⟩ ⟨3, ![1, 2048, 1024]⟩ 1 8 c
      (Cert.ReferenceIdeal.Read.val_main_v33 (F := Ideal) x0 x1 x2 x3 x4) (by decide) := by
  rw [result_eq]
  funext i
  obtain ⟨z, r, e, rfl⟩ : ∃ (z : Fin 1) (r : Fin 256) (e : Fin 1024), i = ix3 z r e := ⟨_, _, _, eq_ix3 i⟩
  obtain rfl : z = 0 := Subsingleton.elim _ _
  rw [block_rows3]
  refine (shapeCast_ab_1ab_apply _ _ _ _ _).trans ?_
  refine (kernel_out m x0 x1 x2 x3 x4 h0 h1 h2 h3 h4 c r e).trans ?_
  exact (ref_out x0 x1 x2 x3 x4 hx hq hk (rowNo c r) e).symm

end

/-! ## The claims -/

section
attribute [local instance] factsK factsR

/-- The frame of the kernel again, under the precondition. -/
theorem frame_ideal_pre : Cert.quiescent_KernelIdeal_pre_scores_finite_KernelIdeal := fun m g _ => frame_ideal m g trivial

/-- The frame of the reference again, under the precondition. -/
theorem frame_reference_pre : Cert.quiescent_ReferenceIdeal_pre_scores_finite_ReferenceIdeal := fun m g _ => frame_reference m g trivial

/-- Under the precondition the two programs, run over the extended reals from the same arrays, end with the same result. -/
theorem algebraic : Cert.algebraic_KernelIdeal_ReferenceIdeal_pre_scores_finite_KernelIdeal := by
  intro m g m' g' hpre hin
  have h0 := fun c => (hin c).1
  have h1 := fun c => (hin c).2.1
  have h2 := fun c => (hin c).2.2.1
  have h3 := fun c => (hin c).2.2.2.1
  have h4 := fun c => (hin c).2.2.2.2
  have hx : ∀ i n, IsReal (m' (((0 : Dev Cert.ReferenceIdeal.nD).tc : Thread Cert.ReferenceIdeal.nD Cert.ReferenceIdeal.τ).loc Cert.ReferenceIdeal.main_arg0) (ix3 (0 : Fin 1) i n)) := by
    intro i n
    obtain ⟨c, r, rfl⟩ := rowNo_surj i
    have p := pre_x _ _ _ _ _ (hpre c).1 (ix3 (0 : Fin 1) r n)
    rw [h0 c, block_rows3] at p
    exact p
  have hq : ∀ n k, IsReal (m' (((0 : Dev Cert.ReferenceIdeal.nD).tc : Thread Cert.ReferenceIdeal.nD Cert.ReferenceIdeal.τ).loc Cert.ReferenceIdeal.main_arg1) (ix2 n k)) := by
    intro n k
    obtain ⟨c, h, k, rfl⟩ := wholeCol_surj k
    have p := pre_wq _ _ _ _ _ (hpre c).2.1 (ix2 n (col h k))
    rw [h1 c, block_cols] at p
    exact p
  have hk : ∀ (j : Fin 2048) hh k, IsReal (m' (((0 : Dev Cert.ReferenceIdeal.nD).tc : Thread Cert.ReferenceIdeal.nD Cert.ReferenceIdeal.τ).loc Cert.ReferenceIdeal.main_arg2) (ix4 (0 : Fin 1) (keyRow j) hh k)) := by
    intro j hh k
    have p := pre_k _ _ _ _ _ (hpre 0).2.2 j hh k
    rw [h2 0] at p
    exact p
  refine ⟨_, (θ_run _ _ _).mono (fun r h c => ⟨?_, (h.1 c main_arg0 (by decide)).trans (V3_main_arg0 m _ c),
      (h.1 c main_arg1 (by decide)).trans (V3_main_arg1 m _ c),
      (h.1 c main_arg2 (by decide)).trans (V3_main_arg2 m _ c),
      (h.1 c main_arg3 (by decide)).trans (V3_main_arg3 m _ c),
      (h.1 c main_arg4 (by decide)).trans (V3_main_arg4 m _ c)⟩) (run_main m g),
    (θ_run _ _ _).mono (fun r h => ⟨(h 0).1.trans (Cert.ReferenceIdeal.Read.val_main_v33_eq m' 0), (h 0).2⟩)
      (Cert.ReferenceIdeal.Value.run (F := Ideal) m' g')⟩
  exact (h.1 c main_v26 (by decide)).trans (result_block m _ _ _ _ _ h0 h1 h2 h3 h4 hx hq hk c)

end

end Cert.Proof

end
-- ==== Proof.lean ====
/- The proof of the certificate's claims, assembled from the modules under Proof/. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Frames
public import proofs.«01_k».proof.Proof.Algebra

@[expose] public section

noncomputable section

namespace Cert.Proof

/-- Every claim of the certificate. -/
theorem claim : Cert.Claim := ⟨Cert.Kernel.Gen.facts, Cert.KernelIdeal.Gen.facts, Cert.ReferenceIdeal.Gen.facts, factsK, factsR,
  frame_bits, frame_ideal, frame_ideal_pre, frame_reference, frame_reference_pre, mask_named, algebraic⟩

end Cert.Proof

end
